-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_squares_in_range [hPre_squares_in_range : Cert.Pre_squares_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_squares_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_squares_in_range [hPre_squares_in_range : Cert.Pre_squares_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_squares_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_squares_in_range [hKernelIdeal : Cert.KernelIdeal.Facts] [hPre_squares_in_range : Cert.Pre_squares_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_squares_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_squares_in_range [hReferenceIdeal : Cert.ReferenceIdeal.Facts] [hPre_squares_in_range : Cert.Pre_squares_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_squares_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_squares_in_range [hKernelIdeal : Cert.KernelIdeal.Facts] [hReferenceIdeal : Cert.ReferenceIdeal.Facts] [hPre_squares_in_range : Cert.Pre_squares_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_squares_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_squares_in_range : Cert.Pre_squares_in_range.Facts),
    quiescent_Kernel (hKernel := hKernel)
    ∧ quiescent_KernelIdeal (hKernelIdeal := hKernelIdeal)
    ∧ quiescent_KernelIdeal_pre_squares_in_range (hKernelIdeal := hKernelIdeal) (hPre_squares_in_range := hPre_squares_in_range)
    ∧ quiescent_ReferenceIdeal (hReferenceIdeal := hReferenceIdeal)
    ∧ quiescent_ReferenceIdeal_pre_squares_in_range (hReferenceIdeal := hReferenceIdeal) (hPre_squares_in_range := hPre_squares_in_range)
    ∧ preserves_Kernel_KernelIdeal
    ∧ algebraic_KernelIdeal_ReferenceIdeal_pre_squares_in_range (hKernelIdeal := hKernelIdeal) (hReferenceIdeal := hReferenceIdeal) (hPre_squares_in_range := hPre_squares_in_range)
-- ==== Pre_squares_in_range.lean ====
abbrev S24x1024x1408 : Shape := ⟨3, ![24, 1024, 1408]⟩
abbrev S1408x2048 : Shape := ⟨2, ![1408, 2048]⟩
abbrev S2048 : Shape := ⟨1, ![2048]⟩
abbrev S_ : Shape := ⟨0, ![]⟩

class Facts : Prop where
  bitsLt_bf16_f32 : FTy.bits .bf16 < FTy.bits .f32
  bcast_S_S24x1024x1408 : S_.BroadcastsInDim S24x1024x1408 (![] : Fin 0 → Fin S24x1024x1408.rank)
  reducesTo_S24x1024x1408_S_d0_1_2 : S24x1024x1408.ReducesTo [0, 1, 2] S_
  h_S_ : 0 < S_.numel

variable [Facts]

def fn {F : FTy → Type} [FloatOps F] (main_arg0 : FVec F S24x1024x1408 .bf16) (main_arg1 : FVec F S1408x2048 .fp8e4m3) (main_arg2 : FVec F S2048 .f32) : IVec S_ 1 :=
  let main_v0 : FVec F S24x1024x1408 .f32 := (extf .f32 · bitsLt_bf16_f32) main_arg0
  let main_cst : FVec F S_ .f32 := constant S_ .f32 0x5F800000#32
  let main_v1 : FVec F S24x1024x1408 .f32 := broadcastInDim S24x1024x1408 ![] bcast_S_S24x1024x1408 main_cst
  let main_v2 : IVec S24x1024x1408 1 := cmpf .olt main_v0 main_v1
  let main_c : IVec S_ 1 := constantI S_ 1 1#1
  let main_v3 : IVec S_ 1 := (fun x v => Host.reduce IntOp.andi x v reducesTo_S24x1024x1408_S_d0_1_2 h_S_) main_v2 main_c
  main_v3
-- ==== Kernel.lean ====
abbrev S24x1024x1408 : Shape := ⟨3, ![24, 1024, 1408]⟩
abbrev S1408x2048 : Shape := ⟨2, ![1408, 2048]⟩
abbrev S2048 : Shape := ⟨1, ![2048]⟩
abbrev S24576x1408 : Shape := ⟨2, ![24576, 1408]⟩
abbrev S1x2048 : Shape := ⟨2, ![1, 2048]⟩
abbrev S24576x2048 : Shape := ⟨2, ![24576, 2048]⟩
abbrev S24576x44 : Shape := ⟨2, ![24576, 44]⟩
abbrev S512x1408 : Shape := ⟨2, ![512, 1408]⟩
abbrev S512x2048 : Shape := ⟨2, ![512, 2048]⟩
abbrev S512x44 : Shape := ⟨2, ![512, 44]⟩
abbrev S32x128 : Shape := ⟨2, ![32, 128]⟩
abbrev S32x128x1 : Shape := ⟨3, ![32, 128, 1]⟩
abbrev S32x44 : Shape := ⟨2, ![32, 44]⟩

abbrev nBuf : Space → Nat
  | .hbm => 8
  | .vmem => 11
  | .smem => 0
  | _ => 0

abbrev bufTy : (tb : Table) → Fin (tcTables nBuf tb) → BufTy
  | .hbm, ⟨0, _⟩ => ⟨S24x1024x1408, .bf16⟩
  | .hbm, ⟨1, _⟩ => ⟨S1408x2048, .fp8e4m3⟩
  | .hbm, ⟨2, _⟩ => ⟨S2048, .f32⟩
  | .hbm, ⟨3, _⟩ => ⟨S24576x1408, .bf16⟩
  | .hbm, ⟨4, _⟩ => ⟨S1x2048, .f32⟩
  | .hbm, ⟨5, _⟩ => ⟨S24576x2048, .bf16⟩
  | .hbm, ⟨6, _⟩ => ⟨S24576x1408, .fp8e4m3⟩
  | .hbm, ⟨7, _⟩ => ⟨S24576x44, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .fp8e4m3⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x1408, .fp8e4m3⟩
  | .local _ .vmem, ⟨7, _⟩ => ⟨S512x1408, .fp8e4m3⟩
  | .local _ .vmem, ⟨8, _⟩ => ⟨S512x44, .f32⟩
  | .local _ .vmem, ⟨9, _⟩ => ⟨S512x44, .f32⟩
  | .local _ .vmem, ⟨10, _⟩ => ⟨S512x1408, .bf16⟩
  | _, _ => ⟨S24x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  v12
def k0_off1 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v27 : Index := Scalar.indexCast v13
  let c0_14 : Index := 0#32
  ![v27.toNat, 0]
def k0_off2 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v78 : Index := Scalar.indexCast v13
  let c128 : Index := 128#32
  ![v78.toNat, 128]
def k0_off3 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v129 : Index := Scalar.indexCast v13
  let c256 : Index := 256#32
  ![v129.toNat, 256]
def k0_off4 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v180 : Index := Scalar.indexCast v13
  let c384 : Index := 384#32
  ![v180.toNat, 384]
def k0_off5 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v231 : Index := Scalar.indexCast v13
  let c512 : Index := 512#32
  ![v231.toNat, 512]
def k0_off6 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v282 : Index := Scalar.indexCast v13
  let c640 : Index := 640#32
  ![v282.toNat, 640]
def k0_off7 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v333 : Index := Scalar.indexCast v13
  let c768 : Index := 768#32
  ![v333.toNat, 768]
def k0_off8 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v384 : Index := Scalar.indexCast v13
  let c896 : Index := 896#32
  ![v384.toNat, 896]
def k0_off9 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v435 : Index := Scalar.indexCast v13
  let c1024 : Index := 1024#32
  ![v435.toNat, 1024]
def k0_off10 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v486 : Index := Scalar.indexCast v13
  let c1152 : Index := 1152#32
  ![v486.toNat, 1152]
def k0_off11 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v537 : Index := Scalar.indexCast v13
  let c1280 : Index := 1280#32
  ![v537.toNat, 1280]
def k0_off12 (k0_t1 : Fin k0_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v10 : BitVec 32 := Scalar.muli arg8 c1_i32_8
  let v11 : BitVec 32 := Scalar.addi c0_i32_9 v10
  let c32_i32 : BitVec 32 := 32#32
  let v12 : BitVec 32 := Scalar.muli v11 c32_i32
  let v13 : BitVec 32 := v12
  let v841 : Index := Scalar.indexCast v13
  let c0_176 : Index := 0#32
  ![v841.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x44 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24x1024x1408 : Shape := ⟨3, ![24, 1024, 1408]⟩
abbrev S1408x2048 : Shape := ⟨2, ![1408, 2048]⟩
abbrev S2048 : Shape := ⟨1, ![2048]⟩
abbrev S24576x1408 : Shape := ⟨2, ![24576, 1408]⟩
abbrev S1x2048 : Shape := ⟨2, ![1, 2048]⟩
abbrev S24576x2048 : Shape := ⟨2, ![24576, 2048]⟩
abbrev S24576x44 : Shape := ⟨2, ![24576, 44]⟩
abbrev S24576x352x4 : Shape := ⟨3, ![24576, 352, 4]⟩
abbrev S24576x352x4x1 : Shape := ⟨4, ![24576, 352, 4, 1]⟩
abbrev S24576x352x1x4 : Shape := ⟨4, ![24576, 352, 1, 4]⟩
abbrev S24576x352x4x4 : Shape := ⟨4, ![24576, 352, 4, 4]⟩
abbrev S24576x44x32 : Shape := ⟨3, ![24576, 44, 32]⟩
abbrev S24576x44x1 : Shape := ⟨3, ![24576, 44, 1]⟩

abbrev nBuf : Space → Nat
  | .hbm => 8
  | .vmem => 6
  | .smem => 0
  | _ => 0

abbrev bufTy : (tb : Table) → Fin (tcTables nBuf tb) → BufTy
  | .hbm, ⟨0, _⟩ => ⟨S24x1024x1408, .bf16⟩
  | .hbm, ⟨1, _⟩ => ⟨S1408x2048, .fp8e4m3⟩
  | .hbm, ⟨2, _⟩ => ⟨S2048, .f32⟩
  | .hbm, ⟨3, _⟩ => ⟨S24576x1408, .bf16⟩
  | .hbm, ⟨4, _⟩ => ⟨S1x2048, .f32⟩
  | .hbm, ⟨5, _⟩ => ⟨S24576x2048, .bf16⟩
  | .hbm, ⟨6, _⟩ => ⟨S24576x1408, .fp8e4m3⟩
  | .hbm, ⟨7, _⟩ => ⟨S24576x44, .f32⟩
  | .local _ .vmem, ⟨0, _⟩ => ⟨S24576x1408, .bf16⟩
  | .local _ .vmem, ⟨1, _⟩ => ⟨S1408x2048, .fp8e4m3⟩
  | .local _ .vmem, ⟨2, _⟩ => ⟨S1x2048, .f32⟩
  | .local _ .vmem, ⟨3, _⟩ => ⟨S24576x2048, .bf16⟩
  | .local _ .vmem, ⟨4, _⟩ => ⟨S24576x1408, .fp8e4m3⟩
  | .local _ .vmem, ⟨5, _⟩ => ⟨S24576x44, .f32⟩
  | _, _ => ⟨S24x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1408x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x44 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Form.lean ====
/- What one trip of the kernel's row loop stores, in a form that is the same for all eleven lane tiles: the printed
   trip (thirty-two rows, eleven tiles of a hundred and twenty-eight lanes, unrolled) as a handful of functions of a
   tile.  Every equation here is definitional. -/
module

public import proofs.«01_k».proof.Proof.Gen.KernelIdeal.Value

@[expose] public section

set_option maxRecDepth 16384

noncomputable section

namespace Cert.KernelIdeal.Form

open Idealize.ShloMosaic Idealize.ShloMosaic.TcCoe Idealize.ShloMosaic.Tactic
open Cert.KernelIdeal Cert.KernelIdeal.Gen

variable {F : FTy → Type} [FloatOps F]

/-- The lane number, at every element of a tile. -/
def lane : IVec S32x128 32 := iota .tc S32x128 32 [1] iota_S32x128_d1_w32

/-- The lane number with the bits of `d` flipped. -/
def flip (d : BitVec 32) : IVec S32x128 32 := xori lane (broadcast S32x128 d)

/-- A lane index as the gather takes it: a negative one would count from the end. -/
def wrap (ix : IVec S32x128 32) : IVec S32x128 32 :=
  shapeCast S32x128 (shapeCast S32x128x1
    (select (cmpi .slt ix (broadcast S32x128 0#32)) (addi ix (broadcast S32x128 128#32)) ix)
    shapeCasts_S32x128_S32x128x1) shapeCasts_S32x128x1_S32x128

/-- The lanes of a float tile permuted. -/
def perm (x : FVec F S32x128 .f32) (ix : IVec S32x128 32) : FVec F S32x128 .f32 := dynamicGather 1 x (wrap ix)

/-- The lanes of a half-width tile permuted. -/
def permB (x : FVec F S32x128 .bf16) (ix : IVec S32x128 32) : FVec F S32x128 .bf16 :=
  truncf .bf16 (perm (extf .f32 x bitsLt_bf16_f32) ix) bitsLt_bf16_f32

/-- The activations of a tile: clipped to zero from below and to 2 ^ 64 from above. -/
def clipT (u : Vec F S32x128 .bf16) : FVec F S32x128 .bf16 :=
  minimumf (broadcast S32x128 (Scalar.ofBits .bf16 0x5F80#16))
    (maximumf (broadcast S32x128 (Scalar.ofBits .bf16 0x0000#16)) (shapeCast S32x128 u shapeCasts_S32x128_S32x128))

/-- A lane's position in its group of four. -/
def pos : IVec S32x128 32 := andi lane (broadcast S32x128 3#32)
/-- Is the lane in the upper pair of its group? -/
def upper : IVec S32x128 1 := cmpi .sge pos (broadcast S32x128 2#32)
/-- Is the lane the second of its pair? -/
def odd : IVec S32x128 1 := cmpi .eq (andi pos (broadcast S32x128 1#32)) (broadcast S32x128 1#32)

/-- The partner of each lane in its pair. -/
def mateT (u : Vec F S32x128 .bf16) : FVec F S32x128 .bf16 := permB (clipT u) (flip 1#32)
/-- The larger of a pair. -/
def hiT (u : Vec F S32x128 .bf16) : FVec F S32x128 .bf16 := maximumf (clipT u) (mateT u)
/-- The smaller of a pair. -/
def loT (u : Vec F S32x128 .bf16) : FVec F S32x128 .bf16 := minimumf (clipT u) (mateT u)
/-- Does a lane's partner come before it? -/
def behindT (u : Vec F S32x128 .bf16) : IVec S32x128 1 :=
  ori (cmpf .ogt (mateT u) (clipT u)) (andi odd (cmpf .oeq (mateT u) (clipT u)))
/-- The element of the other pair that decides. -/
def secondT (u : Vec F S32x128 .bf16) : FVec F S32x128 .bf16 :=
  select (behindT u) (permB (hiT u) (flip 2#32)) (permB (loT u) (flip 2#32))
/-- A tile pruned two of four. -/
def pruneT (u : Vec F S32x128 .bf16) : FVec F S32x128 .bf16 :=
  select (ori (cmpf .ogt (secondT u) (clipT u)) (andi upper (cmpf .oeq (secondT u) (clipT u))))
    (broadcast S32x128 (Scalar.ofBits .bf16 0x0000#16)) (clipT u)
/-- The largest of each group of four. -/
def gmaxT (u : Vec F S32x128 .bf16) : FVec F S32x128 .bf16 := maximumf (hiT u) (permB (hiT u) (flip 2#32))

/-- Where bit `s` of the lane number is set take `b`, elsewhere `a`. -/
def pick (s : BitVec 32) (b a : FVec F S32x128 .bf16) : FVec F S32x128 .bf16 :=
  select (cmpi .eq (andi (shrsi lane (broadcast S32x128 s)) (broadcast S32x128 1#32)) (broadcast S32x128 1#32)) b a
/-- The maximum of each lane and the lane that differs from it in `d`. -/
def spreadMax (d : BitVec 32) (m : FVec F S32x128 .bf16) : FVec F S32x128 .bf16 := maximumf m (permB m (flip d))

/-- The maxima of every block of thirty-two lanes of eleven tiles, merged into one tile. -/
def merged (g : Fin 11 → FVec F S32x128 .bf16) : FVec F S32x128 .bf16 :=
  spreadMax 16#32 (pick 3#32
    (spreadMax 8#32 (spreadMax 4#32 (pick 1#32 (g 10) (pick 0#32 (g 9) (g 8)))))
    (spreadMax 8#32 (pick 2#32
      (spreadMax 4#32 (pick 1#32 (pick 0#32 (g 7) (g 6)) (pick 0#32 (g 5) (g 4))))
      (spreadMax 4#32 (pick 1#32 (pick 0#32 (g 3) (g 2)) (pick 0#32 (g 1) (g 0)))))))

/-- The number whose exponent is the scale's: a block's largest square by the constant 1/448. -/
def squareT (m : FVec F S32x128 .bf16) : FVec F S32x128 .f32 :=
  mulf (mulf (extf .f32 m bitsLt_bf16_f32) (extf .f32 m bitsLt_bf16_f32)) (broadcast S32x128 (Scalar.ofBits .f32 0x3B124925#32))

/-- One step of the search for the exponent field. -/
def stepE (t : FVec F S32x128 .f32) (b : BitVec 32) (e : IVec S32x128 32) : IVec S32x128 32 :=
  select (cmpf .oge t (bitcastToFloat .f32 (addi e (broadcast S32x128 b)))) (addi e (broadcast S32x128 b)) e

/-- The exponent field, in place, searched from its highest bit down. -/
def expT (t : FVec F S32x128 .f32) : IVec S32x128 32 :=
  stepE t 8388608#32 (stepE t 16777216#32 (stepE t 33554432#32 (stepE t 67108864#32 (stepE t 134217728#32
    (stepE t 268435456#32 (stepE t 536870912#32 (stepE t 1073741824#32 (broadcast S32x128 0#32))))))))

/-- The word of the scale. -/
def wordT (t : FVec F S32x128 .f32) : IVec S32x128 32 :=
  select (ori (cmpi .eq (expT t) (broadcast S32x128 0#32)) (cmpi .eq (expT t) (broadcast S32x128 2139095040#32)))
    (broadcast S32x128 1065353216#32) (addi (expT t) (broadcast S32x128 8388608#32))
/-- The scale. -/
def scaleT (t : FVec F S32x128 .f32) : FVec F S32x128 .f32 := bitcastToFloat .f32 (wordT t)
/-- Its reciprocal. -/
def invT (t : FVec F S32x128 .f32) : FVec F S32x128 .f32 :=
  bitcastToFloat .f32 (subi (broadcast S32x128 2130706432#32) (wordT t))

/-- The quotient of the lane number by `n`, rounded down, as it prints. -/
def quot (n : BitVec 32) : IVec S32x128 32 :=
  select (andi (cmpi .ne (subi (extui 32 (cmpi .sgt lane (broadcast S32x128 0#32)) natLt_1_32) (extui 32 (cmpi .slt lane (broadcast S32x128 0#32)) natLt_1_32))
      (broadcast S32x128 (Scalar.subi (Scalar.extui (Scalar.cmpi .sgt n 0#32)) (Scalar.extui (Scalar.cmpi .slt n 0#32)))))
      (cmpi .ne (remsi lane (broadcast S32x128 n)) (broadcast S32x128 0#32)))
    (subi (divsi lane (broadcast S32x128 n)) (broadcast S32x128 1#32)) (divsi lane (broadcast S32x128 n))

/-- The lane that holds block `lane / 32` of tile `j`. -/
def spread (j : BitVec 32) : IVec S32x128 32 :=
  addi (muli (quot 32#32) (broadcast S32x128 32#32)) (broadcast S32x128 j)

/-- The lane that holds the scale of column `lane`. -/
def source : IVec S32x128 32 :=
  addi (muli (select (andi (xori (cmpi .slt (remsi lane (broadcast S32x128 (Scalar.select (Scalar.cmpi .eq 4#32 0#32) 1#32 4#32))) (broadcast S32x128 0#32))
        (broadcastTo S32x128 (broadcast S32x128 (Scalar.cmpi .slt (Scalar.select (Scalar.cmpi .eq 4#32 0#32) 1#32 4#32) 0#32)) broadcasts_S32x128_S32x128))
        (cmpi .ne (remsi lane (broadcast S32x128 (Scalar.select (Scalar.cmpi .eq 4#32 0#32) 1#32 4#32))) (broadcast S32x128 0#32)))
      (addi (remsi lane (broadcast S32x128 (Scalar.select (Scalar.cmpi .eq 4#32 0#32) 1#32 4#32))) (broadcast S32x128 (Scalar.select (Scalar.cmpi .eq 4#32 0#32) 1#32 4#32)))
      (remsi lane (broadcast S32x128 (Scalar.select (Scalar.cmpi .eq 4#32 0#32) 1#32 4#32))))
    (broadcast S32x128 32#32)) (quot 4#32)

/-- The scales of a trip's rows, one column per block. -/
def scalesT (s : FVec F S32x128 .f32) : FVec F S32x44 .f32 :=
  extractStridedSlice S32x44 ![0, 0] (perm s source) slices_S32x128_o0_0_S32x44

/-- The codes of tile `j`. -/
def codesT (u : Vec F S32x128 .bf16) (inv : FVec F S32x128 .f32) (j : BitVec 32) : FVec F S32x128 .fp8e4m3 :=
  truncf .fp8e4m3 (minimumf (broadcast S32x128 (Scalar.ofBits .f32 0x43E00000#32))
    (maximumf (broadcast S32x128 (Scalar.ofBits .f32 0xC3E00000#32))
      (mulf (mulf (extf .f32 (pruneT u) bitsLt_bf16_f32) (extf .f32 (pruneT u) bitsLt_bf16_f32))
        (extf .f32 (permB (truncf .bf16 inv bitsLt_bf16_f32) (spread j)) bitsLt_bf16_f32)))) bitsLt_fp8e4m3_f32

/-- The codes of tile `j` times their scales. -/
def hwT (u : Vec F S32x128 .bf16) (s inv : FVec F S32x128 .f32) (j : BitVec 32) : FVec F S32x128 .bf16 :=
  shapeCast S32x128 (mulf (extf .bf16 (codesT u inv j) bitsLt_fp8e4m3_bf16) (permB (truncf .bf16 s bitsLt_bf16_f32) (spread j)))
    shapeCasts_S32x128_S32x128

/-- The eleven tiles that trip `k` loads. -/
def tiles (arg1 : Memref sig .tc .vmem S512x1408 .bf16) (X : BufTy.Contents (Elt F) arg1.view.ty) (k : Fin k0_t1_loop.trips) : Fin 11 → Vec F S32x128 .bf16
  | 0 => arg1.view.readAt (Elt F) (Rect.unit (s := S512x1408) (k0_off1 k) S32x128.size (k0_off1_inb k)).toLoadRect X
  | 1 => arg1.view.readAt (Elt F) (Rect.unit (s := S512x1408) (k0_off2 k) S32x128.size (k0_off2_inb k)).toLoadRect X
  | 2 => arg1.view.readAt (Elt F) (Rect.unit (s := S512x1408) (k0_off3 k) S32x128.size (k0_off3_inb k)).toLoadRect X
  | 3 => arg1.view.readAt (Elt F) (Rect.unit (s := S512x1408) (k0_off4 k) S32x128.size (k0_off4_inb k)).toLoadRect X
  | 4 => arg1.view.readAt (Elt F) (Rect.unit (s := S512x1408) (k0_off5 k) S32x128.size (k0_off5_inb k)).toLoadRect X
  | 5 => arg1.view.readAt (Elt F) (Rect.unit (s := S512x1408) (k0_off6 k) S32x128.size (k0_off6_inb k)).toLoadRect X
  | 6 => arg1.view.readAt (Elt F) (Rect.unit (s := S512x1408) (k0_off7 k) S32x128.size (k0_off7_inb k)).toLoadRect X
  | 7 => arg1.view.readAt (Elt F) (Rect.unit (s := S512x1408) (k0_off8 k) S32x128.size (k0_off8_inb k)).toLoadRect X
  | 8 => arg1.view.readAt (Elt F) (Rect.unit (s := S512x1408) (k0_off9 k) S32x128.size (k0_off9_inb k)).toLoadRect X
  | 9 => arg1.view.readAt (Elt F) (Rect.unit (s := S512x1408) (k0_off10 k) S32x128.size (k0_off10_inb k)).toLoadRect X
  | 10 => arg1.view.readAt (Elt F) (Rect.unit (s := S512x1408) (k0_off11 k) S32x128.size (k0_off11_inb k)).toLoadRect X

/-- The number whose exponent is the scale's, for the rows of trip `k`. -/
def tripT (arg1 : Memref sig .tc .vmem S512x1408 .bf16) (X : BufTy.Contents (Elt F) arg1.view.ty) (k : Fin k0_t1_loop.trips) : FVec F S32x128 .f32 :=
  squareT (merged fun j => gmaxT (tiles arg1 X k j))

/-- What trip `k` stores of the codes. -/
theorem trip_codes (𝒱 : Variants) (c : Dev nD) (bd : Option 𝒱.V) (i : grid0.Coords) (arg1 : Memref sig .tc .vmem S512x1408 .bf16) (harg1 : arg1.IsWhole) (arg2 : Memref sig .tc .vmem S1408x2048 .fp8e4m3) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x1408 .fp8e4m3) (harg5 : arg5.IsWhole) (arg6 : Memref sig .tc .vmem S512x44 .f32) (harg6 : arg6.IsWhole) (arg7 : Memref sig .tc .vmem S512x1408 .bf16) (harg7 : arg7.IsWhole) (X : BufTy.Contents (Elt F) arg1.view.ty) (k : Fin k0_t1_loop.trips) :
    (trip_k0_t1 (F := F) 𝒱 c bd i arg1 harg1 arg2 harg2 arg3 harg3 arg4 harg4 arg5 harg5 arg6 harg6 arg7 harg7 X k).1 =
    [⟨(Rect.unit (s := S512x1408) (k0_off11 k) S32x128.size (k0_off11_inb k)), codesT (tiles arg1 X k 10) (invT (tripT arg1 X k)) 10#32⟩,
     ⟨(Rect.unit (s := S512x1408) (k0_off10 k) S32x128.size (k0_off10_inb k)), codesT (tiles arg1 X k 9) (invT (tripT arg1 X k)) 9#32⟩,
     ⟨(Rect.unit (s := S512x1408) (k0_off9 k) S32x128.size (k0_off9_inb k)), codesT (tiles arg1 X k 8) (invT (tripT arg1 X k)) 8#32⟩,
     ⟨(Rect.unit (s := S512x1408) (k0_off8 k) S32x128.size (k0_off8_inb k)), codesT (tiles arg1 X k 7) (invT (tripT arg1 X k)) 7#32⟩,
     ⟨(Rect.unit (s := S512x1408) (k0_off7 k) S32x128.size (k0_off7_inb k)), codesT (tiles arg1 X k 6) (invT (tripT arg1 X k)) 6#32⟩,
     ⟨(Rect.unit (s := S512x1408) (k0_off6 k) S32x128.size (k0_off6_inb k)), codesT (tiles arg1 X k 5) (invT (tripT arg1 X k)) 5#32⟩,
     ⟨(Rect.unit (s := S512x1408) (k0_off5 k) S32x128.size (k0_off5_inb k)), codesT (tiles arg1 X k 4) (invT (tripT arg1 X k)) 4#32⟩,
     ⟨(Rect.unit (s := S512x1408) (k0_off4 k) S32x128.size (k0_off4_inb k)), codesT (tiles arg1 X k 3) (invT (tripT arg1 X k)) 3#32⟩,
     ⟨(Rect.unit (s := S512x1408) (k0_off3 k) S32x128.size (k0_off3_inb k)), codesT (tiles arg1 X k 2) (invT (tripT arg1 X k)) 2#32⟩,
     ⟨(Rect.unit (s := S512x1408) (k0_off2 k) S32x128.size (k0_off2_inb k)), codesT (tiles arg1 X k 1) (invT (tripT arg1 X k)) 1#32⟩,
     ⟨(Rect.unit (s := S512x1408) (k0_off1 k) S32x128.size (k0_off1_inb k)), codesT (tiles arg1 X k 0) (invT (tripT arg1 X k)) 0#32⟩] := by
  unfold trip_k0_t1
  rfl

/-- What trip `k` stores of the scales. -/
theorem trip_scales (𝒱 : Variants) (c : Dev nD) (bd : Option 𝒱.V) (i : grid0.Coords) (arg1 : Memref sig .tc .vmem S512x1408 .bf16) (harg1 : arg1.IsWhole) (arg2 : Memref sig .tc .vmem S1408x2048 .fp8e4m3) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x1408 .fp8e4m3) (harg5 : arg5.IsWhole) (arg6 : Memref sig .tc .vmem S512x44 .f32) (harg6 : arg6.IsWhole) (arg7 : Memref sig .tc .vmem S512x1408 .bf16) (harg7 : arg7.IsWhole) (X : BufTy.Contents (Elt F) arg1.view.ty) (k : Fin k0_t1_loop.trips) :
    (trip_k0_t1 (F := F) 𝒱 c bd i arg1 harg1 arg2 harg2 arg3 harg3 arg4 harg4 arg5 harg5 arg6 harg6 arg7 harg7 X k).2.1 =
    [⟨Rect.unit (s := S512x44) (k0_off12 k) S32x44.size (k0_off12_inb k), scalesT (scaleT (tripT arg1 X k))⟩] := by
  unfold trip_k0_t1
  rfl

/-- What trip `k` stores of the rescaled codes. -/
theorem trip_hw (𝒱 : Variants) (c : Dev nD) (bd : Option 𝒱.V) (i : grid0.Coords) (arg1 : Memref sig .tc .vmem S512x1408 .bf16) (harg1 : arg1.IsWhole) (arg2 : Memref sig .tc .vmem S1408x2048 .fp8e4m3) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x1408 .fp8e4m3) (harg5 : arg5.IsWhole) (arg6 : Memref sig .tc .vmem S512x44 .f32) (harg6 : arg6.IsWhole) (arg7 : Memref sig .tc .vmem S512x1408 .bf16) (harg7 : arg7.IsWhole) (X : BufTy.Contents (Elt F) arg1.view.ty) (k : Fin k0_t1_loop.trips) :
    (trip_k0_t1 (F := F) 𝒱 c bd i arg1 harg1 arg2 harg2 arg3 harg3 arg4 harg4 arg5 harg5 arg6 harg6 arg7 harg7 X k).2.2.1 =
    [⟨(Rect.unit (s := S512x1408) (k0_off11 k) S32x128.size (k0_off11_inb k)), hwT (tiles arg1 X k 10) (scaleT (tripT arg1 X k)) (invT (tripT arg1 X k)) 10#32⟩,
     ⟨(Rect.unit (s := S512x1408) (k0_off10 k) S32x128.size (k0_off10_inb k)), hwT (tiles arg1 X k 9) (scaleT (tripT arg1 X k)) (invT (tripT arg1 X k)) 9#32⟩,
     ⟨(Rect.unit (s := S512x1408) (k0_off9 k) S32x128.size (k0_off9_inb k)), hwT (tiles arg1 X k 8) (scaleT (tripT arg1 X k)) (invT (tripT arg1 X k)) 8#32⟩,
     ⟨(Rect.unit (s := S512x1408) (k0_off8 k) S32x128.size (k0_off8_inb k)), hwT (tiles arg1 X k 7) (scaleT (tripT arg1 X k)) (invT (tripT arg1 X k)) 7#32⟩,
     ⟨(Rect.unit (s := S512x1408) (k0_off7 k) S32x128.size (k0_off7_inb k)), hwT (tiles arg1 X k 6) (scaleT (tripT arg1 X k)) (invT (tripT arg1 X k)) 6#32⟩,
     ⟨(Rect.unit (s := S512x1408) (k0_off6 k) S32x128.size (k0_off6_inb k)), hwT (tiles arg1 X k 5) (scaleT (tripT arg1 X k)) (invT (tripT arg1 X k)) 5#32⟩,
     ⟨(Rect.unit (s := S512x1408) (k0_off5 k) S32x128.size (k0_off5_inb k)), hwT (tiles arg1 X k 4) (scaleT (tripT arg1 X k)) (invT (tripT arg1 X k)) 4#32⟩,
     ⟨(Rect.unit (s := S512x1408) (k0_off4 k) S32x128.size (k0_off4_inb k)), hwT (tiles arg1 X k 3) (scaleT (tripT arg1 X k)) (invT (tripT arg1 X k)) 3#32⟩,
     ⟨(Rect.unit (s := S512x1408) (k0_off3 k) S32x128.size (k0_off3_inb k)), hwT (tiles arg1 X k 2) (scaleT (tripT arg1 X k)) (invT (tripT arg1 X k)) 2#32⟩,
     ⟨(Rect.unit (s := S512x1408) (k0_off2 k) S32x128.size (k0_off2_inb k)), hwT (tiles arg1 X k 1) (scaleT (tripT arg1 X k)) (invT (tripT arg1 X k)) 1#32⟩,
     ⟨(Rect.unit (s := S512x1408) (k0_off1 k) S32x128.size (k0_off1_inb k)), hwT (tiles arg1 X k 0) (scaleT (tripT arg1 X k)) (invT (tripT arg1 X k)) 0#32⟩] := by
  unfold trip_k0_t1
  rfl

end Cert.KernelIdeal.Form

end
-- ==== Proof.Lanes.lean ====
/- The lane arithmetic of one trip: what the permutations, the masks and the selections of `Form` read at an index of a
   tile, as arithmetic on the lane number. -/
module

public import proofs.«01_k».proof.Proof.Form
public import Idealize.ShloMosaic.Lib.Pointwise

@[expose] public section

set_option maxRecDepth 16384

noncomputable section

namespace Cert.KernelIdeal.Form

open Idealize.ShloMosaic Idealize.ShloMosaic.TcCoe Idealize.ShloMosaic.Tactic
open Cert.KernelIdeal Cert.KernelIdeal.Gen

variable {F : FTy → Type} [FloatOps F]

theorem lane_apply (r : Fin 32) (l : Fin 128) : lane (ix2 r l) = BitVec.ofNat 32 l.val := by
  pointwise [lane]

theorem perm_apply (x : FVec F S32x128 .f32) (ix : IVec S32x128 32) (r : Fin 32) (l l' : Fin 128)
    (h : ix (ix2 r l) = BitVec.ofNat 32 l'.val) : perm x ix (ix2 r l) = x (ix2 r l') := by
  have key : ∀ l' : Fin 128, (Scalar.select (IntOp.cmpi .slt (BitVec.ofNat 32 l'.val) 0#32)
      (IntOp.addi (BitVec.ofNat 32 l'.val) 128#32) (BitVec.ofNat 32 l'.val)).toNat % 128 = l'.val := by decide +kernel
  pointwise [perm, wrap]
  simp only [h]
  congr 2
  exact Fin.ext (key l')

/-- Lane `l` with the bits of `d` flipped. -/
def flipLane (d : Fin 128) (l : Fin 128) : Fin 128 := ⟨l.val ^^^ d.val, Nat.xor_lt_two_pow (n := 7) l.isLt d.isLt⟩

theorem flip_apply (d : Fin 128) (r : Fin 32) (l : Fin 128) :
    flip (BitVec.ofNat 32 d.val) (ix2 r l) = BitVec.ofNat 32 (flipLane d l).val := by
  pointwise [flip, lane_apply]
  clear r
  revert d l
  decide +kernel

theorem upper_apply (r : Fin 32) (l : Fin 128) : upper (ix2 r l) = BitVec.ofBool (decide (2 ≤ l.val % 4)) := by
  have key : ∀ l : Fin 128, IntOp.cmpi .sge (IntOp.andi (BitVec.ofNat 32 l.val) 3#32) 2#32 = BitVec.ofBool (decide (2 ≤ l.val % 4)) := by
    decide +kernel
  pointwise [upper, pos, lane_apply]
  exact key l

theorem odd_apply (r : Fin 32) (l : Fin 128) : odd (ix2 r l) = BitVec.ofBool (decide (l.val % 2 = 1)) := by
  have key : ∀ l : Fin 128, IntOp.cmpi .eq (IntOp.andi (IntOp.andi (BitVec.ofNat 32 l.val) 3#32) 1#32) 1#32 = BitVec.ofBool (decide (l.val % 2 = 1)) := by
    decide +kernel
  pointwise [odd, pos, lane_apply]
  exact key l

theorem pick_apply (s : Fin 4) (b a : FVec F S32x128 .bf16) (r : Fin 32) (l : Fin 128) :
    pick (BitVec.ofNat 32 s.val) b a (ix2 r l) = if l.val.testBit s.val then b (ix2 r l) else a (ix2 r l) := by
  have key : ∀ (s : Fin 4) (l : Fin 128), IntOp.cmpi .eq (IntOp.andi (IntOp.shrsi .vector (BitVec.ofNat 32 l.val) (BitVec.ofNat 32 s.val)) 1#32) 1#32
     = BitVec.ofBool (l.val.testBit s.val) := by
    decide +kernel
  pointwise [pick, lane_apply]
  rw [key s l]
  cases l.val.testBit s.val <;> rfl

theorem quot_apply_4 (r : Fin 32) (l : Fin 128) : quot 4#32 (ix2 r l) = BitVec.ofNat 32 (l.val / 4) := by
  pointwise [quot, lane_apply]
  clear r
  revert l
  decide +kernel

theorem spread_apply (j : Fin 11) (r : Fin 32) (l : Fin 128) :
    spread (BitVec.ofNat 32 j.val) (ix2 r l) = BitVec.ofNat 32 (32 * (l.val / 32) + j.val) := by
  pointwise [spread, quot, lane_apply]
  clear r
  revert l j
  decide +kernel

theorem source_apply (r : Fin 32) (l : Fin 128) :
    source (ix2 r l) = BitVec.ofNat 32 (32 * (l.val % 4) + l.val / 4) := by
  pointwise [source, quot, lane_apply]
  clear r
  revert l
  decide +kernel

/-- The lane that holds block `l / 32` of tile `j`. -/
def spreadLane (j : Fin 11) (l : Fin 128) : Fin 128 := ⟨32 * (l.val / 32) + j.val, by omega⟩

/-- The lane that holds the scale of column `l`. -/
def sourceLane (l : Fin 128) : Fin 128 := ⟨32 * (l.val % 4) + l.val / 4, by omega⟩

theorem perm_flip (x : FVec F S32x128 .f32) (d : Fin 128) (r : Fin 32) (l : Fin 128) :
    perm x (flip (BitVec.ofNat 32 d.val)) (ix2 r l) = x (ix2 r (flipLane d l)) := perm_apply x _ r l _ (flip_apply d r l)

theorem perm_spread (x : FVec F S32x128 .f32) (j : Fin 11) (r : Fin 32) (l : Fin 128) :
    perm x (spread (BitVec.ofNat 32 j.val)) (ix2 r l) = x (ix2 r (spreadLane j l)) := perm_apply x _ r l _ (spread_apply j r l)

theorem perm_source (x : FVec F S32x128 .f32) (r : Fin 32) (l : Fin 128) :
    perm x source (ix2 r l) = x (ix2 r (sourceLane l)) := perm_apply x _ r l _ (source_apply r l)

end Cert.KernelIdeal.Form

end
-- ==== Proof.Elements.lean ====
/- One trip at the ideal values, element by element: what the stages of `Form` hold at row `r` and lane `l`. -/
module

public import proofs.«01_k».proof.Proof.Lanes

@[expose] public section

set_option maxRecDepth 16384

noncomputable section

namespace Cert.KernelIdeal.Form

open Idealize.ShloMosaic Idealize.ShloMosaic.TcCoe Idealize.ShloMosaic.Tactic
open Cert.KernelIdeal Cert.KernelIdeal.Gen

theorem permB_apply (x : FVec Ideal S32x128 .bf16) (ix : IVec S32x128 32) (i : S32x128.Idx) :
    permB x ix i = perm (F := Ideal) (extf .f32 x bitsLt_bf16_f32) ix i := rfl

theorem permB_flip (x : FVec Ideal S32x128 .bf16) (d : Fin 128) (r : Fin 32) (l : Fin 128) :
    permB x (flip (BitVec.ofNat 32 d.val)) (ix2 r l) = x (ix2 r (flipLane d l)) := by
  rw [permB_apply, perm_flip]; rfl

theorem permB_spread (x : FVec Ideal S32x128 .bf16) (j : Fin 11) (r : Fin 32) (l : Fin 128) :
    permB x (spread (BitVec.ofNat 32 j.val)) (ix2 r l) = x (ix2 r (spreadLane j l)) := by
  rw [permB_apply, perm_spread]; rfl

/-- The activation of one input, as the kernel clips it. -/
def clip1 (v : EReal) : EReal := min (Ideal.ofBits .bf16 0x5F80#16) (max 0 v)

theorem clipT_apply (u : Vec Ideal S32x128 .bf16) (r : Fin 32) (l : Fin 128) :
    clipT u (ix2 r l) = clip1 (u (ix2 r l)) := by
  pointwise [clipT, clip1]

theorem mateT_apply (u : Vec Ideal S32x128 .bf16) (r : Fin 32) (l : Fin 128) :
    mateT u (ix2 r l) = clip1 (u (ix2 r (flipLane 1 l))) := by
  rw [← clipT_apply]; exact permB_flip _ 1 r l

/-- Is `c`, in lane `l`, dropped, where `m` is its partner and `a`, `b` are the other pair of its group? -/
def dropped (l : Fin 128) (c m a b : EReal) : Prop :=
  let second := if c < m ∨ (l.val % 2 = 1 ∧ m = c) then max a b else min a b
  c < second ∨ (2 ≤ l.val % 4 ∧ second = c)

theorem ori_ofBool (a b : Prop) [Decidable a] [Decidable b] :
    IntOp.ori (BitVec.ofBool (decide a)) (BitVec.ofBool (decide b)) = BitVec.ofBool (decide (a ∨ b)) := by
  by_cases ha : a <;> by_cases hb : b <;> simp [ha, hb, IntOp.ori]

theorem andi_ofBool (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem select_ofBool {α : Type} (a : Prop) [Decidable a] (x y : α) :
    Scalar.select (BitVec.ofBool (decide a)) x y = if a then x else y := by
  by_cases ha : a <;> simp [ha, Scalar.select]

instance (l : Fin 128) (c m a b : EReal) : Decidable (dropped l c m a b) := Classical.propDecidable _

theorem hiT_flip (u : Vec Ideal S32x128 .bf16) (r : Fin 32) (l : Fin 128) :
    permB (hiT u) (flip 2#32) (ix2 r l) = max (clip1 (u (ix2 r (flipLane 2 l)))) (clip1 (u (ix2 r (flipLane 1 (flipLane 2 l))))) := by
  rw [← mateT_apply, ← clipT_apply]; exact permB_flip _ 2 r l

theorem loT_flip (u : Vec Ideal S32x128 .bf16) (r : Fin 32) (l : Fin 128) :
    permB (loT u) (flip 2#32) (ix2 r l) = min (clip1 (u (ix2 r (flipLane 2 l)))) (clip1 (u (ix2 r (flipLane 1 (flipLane 2 l))))) := by
  rw [← mateT_apply, ← clipT_apply]; exact permB_flip _ 2 r l

/-- A tile after pruning holds zero where the element is dropped, and else its activation. -/
theorem pruneT_apply (u : Vec Ideal S32x128 .bf16) (r : Fin 32) (l : Fin 128) :
    pruneT u (ix2 r l) = if dropped l (clip1 (u (ix2 r l))) (clip1 (u (ix2 r (flipLane 1 l)))) (clip1 (u (ix2 r (flipLane 2 l))))
        (clip1 (u (ix2 r (flipLane 1 (flipLane 2 l))))) then 0 else clip1 (u (ix2 r l)) := by
  have h1 := hiT_flip u r l
  have h2 := loT_flip u r l
  generalize clip1 (u (ix2 r (flipLane 2 l))) = a at *
  generalize clip1 (u (ix2 r (flipLane 1 (flipLane 2 l)))) = b at *
  have hb : behindT u (ix2 r l) = BitVec.ofBool (decide (clip1 (u (ix2 r l)) < clip1 (u (ix2 r (flipLane 1 l))) ∨ (l.val % 2 = 1 ∧ clip1 (u (ix2 r (flipLane 1 l))) = clip1 (u (ix2 r l))))) := by
    pointwise [behindT, clipT_apply, mateT_apply, odd_apply]
    rw [andi_ofBool, ori_ofBool]
  generalize clip1 (u (ix2 r (flipLane 1 l))) = m at *
  have hs : secondT u (ix2 r l) = if clip1 (u (ix2 r l)) < m ∨ (l.val % 2 = 1 ∧ m = clip1 (u (ix2 r l))) then max a b else min a b := by
    pointwise [secondT, h1, h2, hb]
  pointwise [pruneT, hs, clipT_apply, upper_apply]
  rw [andi_ofBool, ori_ofBool, select_ofBool]
  unfold dropped
  congr 1

theorem gmaxT_apply (u : Vec Ideal S32x128 .bf16) (r : Fin 32) (l : Fin 128) :
    gmaxT u (ix2 r l) = max (max (clip1 (u (ix2 r l))) (clip1 (u (ix2 r (flipLane 1 l)))))
      (max (clip1 (u (ix2 r (flipLane 2 l)))) (clip1 (u (ix2 r (flipLane 1 (flipLane 2 l)))))) := by
  rw [← hiT_flip, ← mateT_apply, ← clipT_apply]; rfl

theorem spreadMax_apply (d : Fin 128) (m : FVec Ideal S32x128 .bf16) (r : Fin 32) (l : Fin 128) :
    spreadMax (BitVec.ofNat 32 d.val) m (ix2 r l) = max (m (ix2 r l)) (m (ix2 r (flipLane d l))) := by
  rw [← permB_flip m d]; rfl

theorem gmaxT_le (u : Vec Ideal S32x128 .bf16) (r : Fin 32) (l : Fin 128) (z : EReal) :
    gmaxT u (ix2 r l) ≤ z ↔ ∀ p : Fin 4, clip1 (u (ix2 r (flipLane ⟨p.val, by omega⟩ l))) ≤ z := by
  have h0 : flipLane 0 l = l := by revert l; decide +kernel
  have h3 : flipLane 3 l = flipLane 1 (flipLane 2 l) := by revert l; decide +kernel
  rw [gmaxT_apply]
  simp only [max_le_iff, Fin.forall_fin_succ, Fin.forall_fin_zero]
  constructor
  · rintro ⟨⟨a, b⟩, c, d⟩
    exact ⟨by rw [← h0] at a; exact a, b, c, by rw [← h3] at d; exact d, trivial⟩
  · rintro ⟨a, b, c, d, -⟩
    exact ⟨⟨by rw [← h0]; exact a, b⟩, c, by rw [← h3]; exact d⟩

/-- Lane `32 * b + j`: where the merged tile keeps the maximum of block `b` of tile `j`. -/
def blockLane (b : Fin 4) (j : Fin 11) : Fin 128 := ⟨32 * b.val + j.val, by omega⟩

/-- Bit `s` of a lane. -/
def laneBit (s : Fin 4) (l : Fin 128) : Bool := l.val.testBit s.val

/-- Bit `s` of a tile's number. -/
def tileBit (s : Fin 4) (j : Fin 11) : Bool := j.val.testBit s.val

theorem pick0 (b a : FVec Ideal S32x128 .bf16) (r : Fin 32) (l : Fin 128) :
    pick 0#32 b a (ix2 r l) = if laneBit 0 l then b (ix2 r l) else a (ix2 r l) := pick_apply 0 b a r l
theorem pick1 (b a : FVec Ideal S32x128 .bf16) (r : Fin 32) (l : Fin 128) :
    pick 1#32 b a (ix2 r l) = if laneBit 1 l then b (ix2 r l) else a (ix2 r l) := pick_apply 1 b a r l
theorem pick2 (b a : FVec Ideal S32x128 .bf16) (r : Fin 32) (l : Fin 128) :
    pick 2#32 b a (ix2 r l) = if laneBit 2 l then b (ix2 r l) else a (ix2 r l) := pick_apply 2 b a r l
theorem pick3 (b a : FVec Ideal S32x128 .bf16) (r : Fin 32) (l : Fin 128) :
    pick 3#32 b a (ix2 r l) = if laneBit 3 l then b (ix2 r l) else a (ix2 r l) := pick_apply 3 b a r l
theorem spread4 (m : FVec Ideal S32x128 .bf16) (r : Fin 32) (l : Fin 128) :
    spreadMax 4#32 m (ix2 r l) = max (m (ix2 r l)) (m (ix2 r (flipLane 4 l))) := spreadMax_apply 4 m r l
theorem spread8 (m : FVec Ideal S32x128 .bf16) (r : Fin 32) (l : Fin 128) :
    spreadMax 8#32 m (ix2 r l) = max (m (ix2 r l)) (m (ix2 r (flipLane 8 l))) := spreadMax_apply 8 m r l
theorem spread16 (m : FVec Ideal S32x128 .bf16) (r : Fin 32) (l : Fin 128) :
    spreadMax 16#32 m (ix2 r l) = max (m (ix2 r l)) (m (ix2 r (flipLane 16 l))) := spreadMax_apply 16 m r l

theorem laneBit_block (s : Fin 4) (b : Fin 4) (j : Fin 11) : laneBit s (blockLane b j) = tileBit s j := by
  revert b j s; decide +kernel
theorem laneBit_low (d : Fin 8) (s : Fin 2) (l : Fin 128) : laneBit ⟨s.val, by omega⟩ (flipLane ⟨4 * d.val, by omega⟩ l) = laneBit ⟨s.val, by omega⟩ l := by
  revert d s l; decide +kernel
theorem laneBit_mid (d : Fin 4) (l : Fin 128) : laneBit 2 (flipLane ⟨8 * d.val, by omega⟩ l) = laneBit 2 l := by
  revert d l; decide +kernel
theorem laneBit_high (l : Fin 128) : laneBit 3 (flipLane 16 l) = laneBit 3 l := by
  revert l; decide +kernel

/-- The merged tile holds, in its lane for tile `j` and block `b`, the maximum over the eight groups of that block. -/
theorem merged_le (g : Fin 11 → FVec Ideal S32x128 .bf16) (r : Fin 32) (b : Fin 4) (j : Fin 11) (z : EReal) :
    merged g (ix2 r (blockLane b j)) ≤ z ↔ ∀ q : Fin 8, g j (ix2 r (flipLane ⟨4 * q.val, by omega⟩ (blockLane b j))) ≤ z := by
  have b0 := laneBit_block 0 b j
  have b1 := laneBit_block 1 b j
  have b2 := laneBit_block 2 b j
  have b3 := laneBit_block 3 b j
  have f0 : flipLane 0 (blockLane b j) = blockLane b j := by revert b j; decide +kernel
  have f12 : flipLane 4 (flipLane 8 (blockLane b j)) = flipLane 12 (blockLane b j) := by revert b j; decide +kernel
  have f20 : flipLane 4 (flipLane 16 (blockLane b j)) = flipLane 20 (blockLane b j) := by revert b j; decide +kernel
  have f24 : flipLane 8 (flipLane 16 (blockLane b j)) = flipLane 24 (blockLane b j) := by revert b j; decide +kernel
  have f28 : flipLane 4 (flipLane 24 (blockLane b j)) = flipLane 28 (blockLane b j) := by revert b j; decide +kernel
  generalize blockLane b j = l at *
  have l4_0 : laneBit 0 (flipLane 4 l) = laneBit 0 l := laneBit_low 1 0 l
  have l4_1 : laneBit 1 (flipLane 4 l) = laneBit 1 l := laneBit_low 1 1 l
  have l8_0 : laneBit 0 (flipLane 8 l) = laneBit 0 l := laneBit_low 2 0 l
  have l8_1 : laneBit 1 (flipLane 8 l) = laneBit 1 l := laneBit_low 2 1 l
  have l12_0 : laneBit 0 (flipLane 12 l) = laneBit 0 l := laneBit_low 3 0 l
  have l12_1 : laneBit 1 (flipLane 12 l) = laneBit 1 l := laneBit_low 3 1 l
  have l16_0 : laneBit 0 (flipLane 16 l) = laneBit 0 l := laneBit_low 4 0 l
  have l16_1 : laneBit 1 (flipLane 16 l) = laneBit 1 l := laneBit_low 4 1 l
  have l20_0 : laneBit 0 (flipLane 20 l) = laneBit 0 l := laneBit_low 5 0 l
  have l20_1 : laneBit 1 (flipLane 20 l) = laneBit 1 l := laneBit_low 5 1 l
  have l24_0 : laneBit 0 (flipLane 24 l) = laneBit 0 l := laneBit_low 6 0 l
  have l24_1 : laneBit 1 (flipLane 24 l) = laneBit 1 l := laneBit_low 6 1 l
  have l28_0 : laneBit 0 (flipLane 28 l) = laneBit 0 l := laneBit_low 7 0 l
  have l28_1 : laneBit 1 (flipLane 28 l) = laneBit 1 l := laneBit_low 7 1 l
  have l8_2 : laneBit 2 (flipLane 8 l) = laneBit 2 l := laneBit_mid 1 l
  have l16_2 : laneBit 2 (flipLane 16 l) = laneBit 2 l := laneBit_mid 2 l
  have l24_2 : laneBit 2 (flipLane 24 l) = laneBit 2 l := laneBit_mid 3 l
  have l16_3 := laneBit_high l
  have hq : (∀ q : Fin 8, g j (ix2 r (flipLane ⟨4 * q.val, by omega⟩ l)) ≤ z) ↔ ((((g j (ix2 r l) ≤ z ∧ g j (ix2 r (flipLane 4 l)) ≤ z) ∧ g j (ix2 r (flipLane 8 l)) ≤ z ∧ g j (ix2 r (flipLane 12 l)) ≤ z)) ∧ (g j (ix2 r (flipLane 16 l)) ≤ z ∧ g j (ix2 r (flipLane 20 l)) ≤ z) ∧ g j (ix2 r (flipLane 24 l)) ≤ z ∧ g j (ix2 r (flipLane 28 l)) ≤ z) := by
    constructor
    · intro h
      exact ⟨⟨⟨by rw [← f0]; exact h 0, h 1⟩, h 2, h 3⟩, ⟨h 4, h 5⟩, h 6, h 7⟩
    · rintro ⟨⟨⟨h0, h1⟩, h2, h3⟩, ⟨h4, h5⟩, h6, h7⟩ q
      fin_cases q
      · rw [← f0] at h0; exact h0
      all_goals assumption
  rw [hq]
  simp only [merged, pick0, pick1, pick2, pick3, spread4, spread8, spread16, f12, f20, f24, f28, l4_0, l4_1, l8_0, l8_1, l12_0, l12_1, l16_0, l16_1, l20_0, l20_1, l24_0, l24_1, l28_0, l28_1, l8_2, l16_2, l24_2, l16_3, b0, b1, b2, b3]
  clear b0 b1 b2 b3
  generalize hv0 : tileBit 0 j = v0 at *
  generalize hv1 : tileBit 1 j = v1 at *
  generalize hv2 : tileBit 2 j = v2 at *
  generalize hv3 : tileBit 3 j = v3 at *
  fin_cases j
  · obtain rfl : v0 = false := hv0.symm.trans (show tileBit 0 0 = false by decide +kernel); obtain rfl : v1 = false := hv1.symm.trans (show tileBit 1 0 = false by decide +kernel); obtain rfl : v2 = false := hv2.symm.trans (show tileBit 2 0 = false by decide +kernel); obtain rfl : v3 = false := hv3.symm.trans (show tileBit 3 0 = false by decide +kernel)
    simp only [if_true, if_false, Bool.false_eq_true, max_le_iff]; first | rfl | tauto
  · obtain rfl : v0 = true := hv0.symm.trans (show tileBit 0 1 = true by decide +kernel); obtain rfl : v1 = false := hv1.symm.trans (show tileBit 1 1 = false by decide +kernel); obtain rfl : v2 = false := hv2.symm.trans (show tileBit 2 1 = false by decide +kernel); obtain rfl : v3 = false := hv3.symm.trans (show tileBit 3 1 = false by decide +kernel)
    simp only [if_true, if_false, Bool.false_eq_true, max_le_iff]; first | rfl | tauto
  · obtain rfl : v0 = false := hv0.symm.trans (show tileBit 0 2 = false by decide +kernel); obtain rfl : v1 = true := hv1.symm.trans (show tileBit 1 2 = true by decide +kernel); obtain rfl : v2 = false := hv2.symm.trans (show tileBit 2 2 = false by decide +kernel); obtain rfl : v3 = false := hv3.symm.trans (show tileBit 3 2 = false by decide +kernel)
    simp only [if_true, if_false, Bool.false_eq_true, max_le_iff]; first | rfl | tauto
  · obtain rfl : v0 = true := hv0.symm.trans (show tileBit 0 3 = true by decide +kernel); obtain rfl : v1 = true := hv1.symm.trans (show tileBit 1 3 = true by decide +kernel); obtain rfl : v2 = false := hv2.symm.trans (show tileBit 2 3 = false by decide +kernel); obtain rfl : v3 = false := hv3.symm.trans (show tileBit 3 3 = false by decide +kernel)
    simp only [if_true, if_false, Bool.false_eq_true, max_le_iff]; first | rfl | tauto
  · obtain rfl : v0 = false := hv0.symm.trans (show tileBit 0 4 = false by decide +kernel); obtain rfl : v1 = false := hv1.symm.trans (show tileBit 1 4 = false by decide +kernel); obtain rfl : v2 = true := hv2.symm.trans (show tileBit 2 4 = true by decide +kernel); obtain rfl : v3 = false := hv3.symm.trans (show tileBit 3 4 = false by decide +kernel)
    simp only [if_true, if_false, Bool.false_eq_true, max_le_iff]; first | rfl | tauto
  · obtain rfl : v0 = true := hv0.symm.trans (show tileBit 0 5 = true by decide +kernel); obtain rfl : v1 = false := hv1.symm.trans (show tileBit 1 5 = false by decide +kernel); obtain rfl : v2 = true := hv2.symm.trans (show tileBit 2 5 = true by decide +kernel); obtain rfl : v3 = false := hv3.symm.trans (show tileBit 3 5 = false by decide +kernel)
    simp only [if_true, if_false, Bool.false_eq_true, max_le_iff]; first | rfl | tauto
  · obtain rfl : v0 = false := hv0.symm.trans (show tileBit 0 6 = false by decide +kernel); obtain rfl : v1 = true := hv1.symm.trans (show tileBit 1 6 = true by decide +kernel); obtain rfl : v2 = true := hv2.symm.trans (show tileBit 2 6 = true by decide +kernel); obtain rfl : v3 = false := hv3.symm.trans (show tileBit 3 6 = false by decide +kernel)
    simp only [if_true, if_false, Bool.false_eq_true, max_le_iff]; first | rfl | tauto
  · obtain rfl : v0 = true := hv0.symm.trans (show tileBit 0 7 = true by decide +kernel); obtain rfl : v1 = true := hv1.symm.trans (show tileBit 1 7 = true by decide +kernel); obtain rfl : v2 = true := hv2.symm.trans (show tileBit 2 7 = true by decide +kernel); obtain rfl : v3 = false := hv3.symm.trans (show tileBit 3 7 = false by decide +kernel)
    simp only [if_true, if_false, Bool.false_eq_true, max_le_iff]; first | rfl | tauto
  · obtain rfl : v0 = false := hv0.symm.trans (show tileBit 0 8 = false by decide +kernel); obtain rfl : v1 = false := hv1.symm.trans (show tileBit 1 8 = false by decide +kernel); obtain rfl : v2 = false := hv2.symm.trans (show tileBit 2 8 = false by decide +kernel); obtain rfl : v3 = true := hv3.symm.trans (show tileBit 3 8 = true by decide +kernel)
    simp only [if_true, if_false, Bool.false_eq_true, max_le_iff]; first | rfl | tauto
  · obtain rfl : v0 = true := hv0.symm.trans (show tileBit 0 9 = true by decide +kernel); obtain rfl : v1 = false := hv1.symm.trans (show tileBit 1 9 = false by decide +kernel); obtain rfl : v2 = false := hv2.symm.trans (show tileBit 2 9 = false by decide +kernel); obtain rfl : v3 = true := hv3.symm.trans (show tileBit 3 9 = true by decide +kernel)
    simp only [if_true, if_false, Bool.false_eq_true, max_le_iff]; first | rfl | tauto
  · obtain rfl : v0 = false := hv0.symm.trans (show tileBit 0 10 = false by decide +kernel); obtain rfl : v1 = true := hv1.symm.trans (show tileBit 1 10 = true by decide +kernel); obtain rfl : v2 = false := hv2.symm.trans (show tileBit 2 10 = false by decide +kernel); obtain rfl : v3 = true := hv3.symm.trans (show tileBit 3 10 = true by decide +kernel)
    simp only [if_true, if_false, Bool.false_eq_true, max_le_iff]; first | rfl | tauto

end Cert.KernelIdeal.Form

end
-- ==== Proof.Spec.lean ====
/- The mathematics both modules compute, on one row: squared relu, 2:4 pruning, block scales that are powers of two,
   codes, and the dequantised product. All of it is real arithmetic but the product, whose weights may be any values. -/
module

public import proofs.«01_k».proof.Proof.Gen.KernelIdeal
public import Idealize.ShloMosaic.Lib.IdealHost

@[expose] public section

set_option maxRecDepth 16384

noncomputable section

namespace Cert.Spec

open Idealize.ShloMosaic

/-! ## Definitions -/

/-- The real activation of an input. -/
def act (v : EReal) : ℝ := (max v 0).toReal

/-- Element `q` of the group of four that column `c` lies in. -/
def member (c : Fin 1408) (q : Fin 4) : Fin 1408 := ⟨4 * (c.val / 4) + q.val, by omega⟩

/-- Column `i` of block `b`. -/
def col (b : Fin 44) (i : Fin 32) : Fin 1408 := ⟨32 * b.val + i.val, by omega⟩

/-- The block that column `c` lies in. -/
def blockOf (c : Fin 1408) : Fin 44 := ⟨c.val / 32, by omega⟩

/-- Element `q` of the group ranks before the element at column `c`: it is larger, or equal and earlier. -/
def beats (u : Fin 1408 → EReal) (c : Fin 1408) (q : Fin 4) : Prop :=
  act (u c) < act (u (member c q)) ∨ (act (u (member c q)) = act (u c) ∧ q.val < c.val % 4)

instance (u : Fin 1408 → EReal) (c : Fin 1408) (q : Fin 4) : Decidable (beats u c q) := Classical.propDecidable _

/-- How many of its group rank before the element at column `c`. -/
def rank (u : Fin 1408 → EReal) (c : Fin 1408) : ℕ := (Finset.univ.filter fun q => beats u c q).card

/-- The activation after pruning: zero where two of the group rank before. -/
def pruned (u : Fin 1408 → EReal) (c : Fin 1408) : ℝ := if 2 ≤ rank u c then 0 else act (u c)

/-- The largest activation of block `b`. -/
def peak (u : Fin 1408 → EReal) (b : Fin 44) : ℝ :=
  Finset.univ.sup' Finset.univ_nonempty fun i : Fin 32 => act (u (col b i))

/-- The float nearest to 1/448. -/
def kappa : ℝ := 9586981 * ((2 : ℝ) ^ 32)⁻¹

/-- The power of two of a scale whose block has largest square times 1/448 equal to `t`. -/
def power (t : ℝ) : ℤ := if t < (2 : ℝ) ^ (-126 : ℤ) then 0 else ⌊Real.log t / Real.log 2⌋ + 1

/-- The power of two of block `b`'s scale. -/
def blockPower (u : Fin 1408 → EReal) (b : Fin 44) : ℤ := power (peak u b * peak u b * kappa)

/-- The scale of block `b`. -/
def scale (u : Fin 1408 → EReal) (b : Fin 44) : ℝ := (2 : ℝ) ^ blockPower u b

/-- The code at column `c`: the pruned square by the reciprocal of its block's scale, clipped to what the codes hold. -/
def code (u : Fin 1408 → EReal) (c : Fin 1408) : ℝ :=
  min 448 (max (-448) (pruned u c * pruned u c * (2 : ℝ) ^ (-blockPower u (blockOf c))))

/-- The code times its scale. -/
def dequant (u : Fin 1408 → EReal) (c : Fin 1408) : ℝ := code u c * scale u (blockOf c)

/-- The product at output column `d`: the dequantised row by the weights of that column, by the column's weight scale. -/
def product (u w : Fin 1408 → EReal) (s : EReal) : EReal := (∑ c, (dequant u c : EReal) * w c) * s

theorem kappa_bits : Ideal.ofBits .f32 0x3B124925#32 = ((kappa : ℝ) : EReal) := by
  simp [Ideal.ofBits, Ideal.ieee, -EReal.coe_mul]
  norm_num [kappa]

theorem ofBits_448_f32 : Ideal.ofBits .f32 0x43E00000#32 = ((448 : ℝ) : EReal) := by
  simp [Ideal.ofBits, Ideal.ieee, -EReal.coe_mul]
  try norm_num
theorem ofBits_n448_f32 : Ideal.ofBits .f32 0xC3E00000#32 = ((-448 : ℝ) : EReal) := by
  simp [Ideal.ofBits, Ideal.ieee, -EReal.coe_mul]
  try norm_num
theorem ofBits_two_f32 : Ideal.ofBits .f32 0x40000000#32 = ((2 : ℝ) : EReal) := by
  simp [Ideal.ofBits, Ideal.ieee, -EReal.coe_mul]
  try norm_num
theorem ofBits_huge_f32 : Ideal.ofBits .f32 0x5F800000#32 = ((18446744073709551616 : ℝ) : EReal) := by
  simp [Ideal.ofBits, Ideal.ieee, -EReal.coe_mul]
  try norm_num
theorem ofBits_huge_bf16 : Ideal.ofBits .bf16 0x5F80#16 = ((18446744073709551616 : ℝ) : EReal) := by
  simp [Ideal.ofBits, Ideal.ieee, -EReal.coe_mul]
  try norm_num
theorem ofBits_tiny_f32 : Ideal.ofBits .f32 0x00800000#32 = (((2 : ℝ) ^ (-126 : ℤ) : ℝ) : EReal) := by
  simp [Ideal.ofBits, Ideal.ieee, -EReal.coe_mul]
  try norm_num

/-! ## Activations -/

theorem act_nonneg (v : EReal) : 0 ≤ act v := EReal.toReal_nonneg (le_max_right v 0)

theorem coe_act (v : EReal) (h : v < Ideal.ofBits .f32 0x5F800000#32) : ((act v : ℝ) : EReal) = max v 0 := by
  unfold act
  refine EReal.coe_toReal (ne_of_lt (max_lt (lt_of_lt_of_le h le_top) EReal.zero_lt_top)) (ne_of_gt (lt_of_lt_of_le EReal.bot_lt_zero (le_max_right v 0)))

theorem act_lt (v : EReal) (h : v < Ideal.ofBits .f32 0x5F800000#32) : act v < 18446744073709551616 := by
  rw [← EReal.coe_lt_coe_iff, coe_act v h]
  rw [ofBits_huge_f32] at h
  exact max_lt h (EReal.coe_pos.2 (by norm_num))

theorem peak_nonneg (u : Fin 1408 → EReal) (b : Fin 44) : 0 ≤ peak u b :=
  le_trans (act_nonneg (u (col b 0))) (Finset.le_sup' (fun i : Fin 32 => act (u (col b i))) (Finset.mem_univ 0))

theorem peak_lt (u : Fin 1408 → EReal) (hu : ∀ c, u c < Ideal.ofBits .f32 0x5F800000#32) (b : Fin 44) :
    peak u b < 18446744073709551616 := by
  unfold peak
  rw [Finset.sup'_lt_iff]
  exact fun i _ => act_lt _ (hu _)

theorem level_nonneg (u : Fin 1408 → EReal) (b : Fin 44) : 0 ≤ peak u b * peak u b * kappa :=
  mul_nonneg (mul_nonneg (peak_nonneg u b) (peak_nonneg u b)) (by norm_num [kappa])

theorem level_lt (u : Fin 1408 → EReal) (hu : ∀ c, u c < Ideal.ofBits .f32 0x5F800000#32) (b : Fin 44) :
    peak u b * peak u b * kappa < (2 : ℝ) ^ (121 : ℤ) := by
  have h0 := peak_nonneg u b
  have h1 := peak_lt u hu b
  have h2 : peak u b * peak u b ≤ 18446744073709551616 * 18446744073709551616 := mul_le_mul h1.le h1.le h0 (by norm_num)
  have h3 : peak u b * peak u b * kappa ≤ 18446744073709551616 * 18446744073709551616 * kappa :=
    mul_le_mul_of_nonneg_right h2 (by norm_num [kappa])
  refine lt_of_le_of_lt h3 ?_
  norm_num [kappa]

/-- The largest activation of a block is at most `z` when every one is. -/
theorem peak_le (u : Fin 1408 → EReal) (b : Fin 44) (z : EReal) :
    ((peak u b : ℝ) : EReal) ≤ z ↔ ∀ i : Fin 32, ((act (u (col b i)) : ℝ) : EReal) ≤ z := by
  constructor
  · intro h i
    exact le_trans (EReal.coe_le_coe_iff.2 (Finset.le_sup' (fun i : Fin 32 => act (u (col b i))) (Finset.mem_univ i))) h
  · intro h
    obtain ⟨i, -, hi⟩ := Finset.exists_mem_eq_sup' Finset.univ_nonempty fun i : Fin 32 => act (u (col b i))
    rw [peak, hi]; exact h i

end Cert.Spec

end
-- ==== Proof.Power.lean ====
/- The scales as words: the search for the exponent field, and the power of two it gives. -/
module

public import proofs.«01_k».proof.Proof.Spec

@[expose] public section

set_option maxRecDepth 16384

noncomputable section

namespace Cert.Spec

open Idealize.ShloMosaic

/-! ## Powers of two as words -/

/-- The word whose exponent field is `n` and whose other bits are zero. -/
@[irreducible] def wd (n : ℕ) : BitVec 32 := BitVec.ofNat 32 (n * 8388608)

theorem wd_add (a b : ℕ) : wd a + wd b = wd (a + b) := by
  rw [wd, wd, wd, ← BitVec.ofNat_add, Nat.add_mul]

theorem wd_toNat (n : ℕ) (h : n < 256) : (wd n).toNat = n * 8388608 := by
  rw [wd, BitVec.toNat_ofNat, Nat.mod_eq_of_lt (by omega)]

theorem wd_sub (a b : ℕ) (h : b ≤ a) (ha : a < 256) : wd a - wd b = wd (a - b) := by
  rw [← Nat.sub_add_cancel h, ← wd_add, BitVec.add_sub_cancel, Nat.add_sub_cancel]

/-- The float whose exponent field is `n` and whose fraction is zero. -/
def pw (n : ℕ) : EReal := Ideal.ofBits .f32 (wd n)

theorem pw_zero : pw 0 = 0 := by
  rw [pw, wd]; simp
theorem pw_top : pw 255 = ⊤ := by
  rw [pw, wd]; simp [Ideal.ofBits, Ideal.ieee]
theorem pw_mid (n : ℕ) (h1 : 1 ≤ n) (h2 : n ≤ 254) : pw n = (((2 : ℝ) ^ ((n : ℤ) - 127) : ℝ) : EReal) := by
  have e1 : ((BitVec.ofNat 32 (n * 8388608)).extractLsb' 23 8).toNat = n :=
    (by decide +kernel : ∀ n : Fin 256, ((BitVec.ofNat 32 (n.val * 8388608)).extractLsb' 23 8).toNat = n.val) ⟨n, by omega⟩
  have e2 : ((BitVec.ofNat 32 (n * 8388608)).extractLsb' 0 23).toNat = 0 :=
    (by decide +kernel : ∀ n : Fin 256, ((BitVec.ofNat 32 (n.val * 8388608)).extractLsb' 0 23).toNat = 0) ⟨n, by omega⟩
  have e3 : ((BitVec.ofNat 32 (n * 8388608)).extractLsb' (8 + 23) 1 == 1#1) = false :=
    (by decide +kernel : ∀ n : Fin 256, ((BitVec.ofNat 32 (n.val * 8388608)).extractLsb' (8 + 23) 1 == 1#1) = false) ⟨n, by omega⟩
  rw [pw, wd]
  simp only [Ideal.ofBits, Ideal.ieee, e1, e2, e3]
  rw [if_neg (by omega), if_neg (by omega)]
  congr 1
  have : ((n : ℤ) - 127) = 23 + ((n : ℤ) - (2 ^ (8 - 1) - 1) - ((23 : ℕ) : ℤ)) := by norm_num
  rw [this, zpow_add₀ (by norm_num)]
  norm_num

theorem pw_lt_succ (n : ℕ) (h : n ≤ 254) : pw n < pw (n + 1) := by
  rcases Nat.eq_zero_or_pos n with rfl | h1
  · rw [pw_zero, pw_mid 1 (by omega) (by omega)]
    exact EReal.coe_pos.2 (by positivity)
  · rcases Nat.lt_or_ge n 254 with h2 | h2
    · rw [pw_mid n h1 (by omega), pw_mid (n + 1) (by omega) (by omega)]
      exact EReal.coe_lt_coe_iff.2 (zpow_lt_zpow_right₀ (by norm_num) (by push_cast; omega))
    · obtain rfl : n = 254 := by omega
      rw [pw_mid 254 (by omega) (by omega), pw_top]
      exact EReal.coe_lt_top _

/-- The exponent field `E` is right down to steps of `b`. -/
def Found (t : EReal) (E b : ℕ) : Prop := E + b ≤ 256 ∧ pw E ≤ t ∧ (E + b < 256 → t < pw (E + b))

/-- One step of the search, on words. -/
def stepW (t : EReal) (b e : BitVec 32) : BitVec 32 :=
  Scalar.select (Ideal.cmp .oge t (Ideal.ofBits .f32 (e + b))) (e + b) e

theorem found_step (t : EReal) (E b b2 : ℕ) (w : BitVec 32) (hw : w = wd b) (hb : b2 = 2 * b) (h : Found t E b2) :
    ∃ E', stepW t w (wd E) = wd E' ∧ Found t E' b := by
  obtain ⟨h1, h2, h3⟩ := h
  unfold stepW
  rw [hw, wd_add]
  by_cases hc : pw (E + b) ≤ t
  · refine ⟨E + b, ?_, by omega, hc, ?_⟩
    · have : Ideal.cmp .oge t (Ideal.ofBits .f32 (wd (E + b))) = 1#1 := by
        rw [pw] at hc
        simp [Ideal.cmp, hc]
      rw [this]; rfl
    · intro h; rw [show E + b + b = E + b2 by omega]; exact h3 (by omega)
  · refine ⟨E, ?_, by omega, h2, fun _ => not_le.1 hc⟩
    have : Ideal.cmp .oge t (Ideal.ofBits .f32 (wd (E + b))) = 0#1 := by
      rw [pw] at hc
      simp [Ideal.cmp, hc]
    rw [this]; rfl

theorem wd_lit (n : ℕ) (v : BitVec 32) (h : v = BitVec.ofNat 32 (n * 8388608)) : v = wd n := by rw [wd]; exact h

/-- The whole search, on words. -/
def searchW (t : EReal) : BitVec 32 :=
  stepW t 8388608#32 (stepW t 16777216#32 (stepW t 33554432#32 (stepW t 67108864#32 (stepW t 134217728#32
    (stepW t 268435456#32 (stepW t 536870912#32 (stepW t 1073741824#32 0#32)))))))

theorem found_search (t : EReal) (h0 : 0 ≤ t) : ∃ E, searchW t = wd E ∧ Found t E 1 := by
  obtain ⟨E1, e1, f1⟩ := found_step t 0 128 256 1073741824#32 (wd_lit 128 _ (by decide)) (by omega) ⟨by omega, by rw [pw_zero]; exact h0, fun h => absurd h (by omega)⟩
  obtain ⟨E2, e2, f2⟩ := found_step t E1 64 128 536870912#32 (wd_lit 64 _ (by decide)) (by omega) f1
  obtain ⟨E3, e3, f3⟩ := found_step t E2 32 64 268435456#32 (wd_lit 32 _ (by decide)) (by omega) f2
  obtain ⟨E4, e4, f4⟩ := found_step t E3 16 32 134217728#32 (wd_lit 16 _ (by decide)) (by omega) f3
  obtain ⟨E5, e5, f5⟩ := found_step t E4 8 16 67108864#32 (wd_lit 8 _ (by decide)) (by omega) f4
  obtain ⟨E6, e6, f6⟩ := found_step t E5 4 8 33554432#32 (wd_lit 4 _ (by decide)) (by omega) f5
  obtain ⟨E7, e7, f7⟩ := found_step t E6 2 4 16777216#32 (wd_lit 2 _ (by decide)) (by omega) f6
  obtain ⟨E8, e8, f8⟩ := found_step t E7 1 2 8388608#32 (wd_lit 1 _ (by decide)) (by omega) f7
  refine ⟨E8, ?_, f8⟩
  unfold searchW
  rw [wd_lit 0 0#32 (by decide), e1, e2, e3, e4, e5, e6, e7, e8]

/-- The word of the scale: one where the field is zero or all ones, else the next power of two. -/
def scaleW (t : EReal) : BitVec 32 :=
  if searchW t = 0#32 ∨ searchW t = 2139095040#32 then 1065353216#32 else searchW t + 8388608#32

theorem power_eq (t : ℝ) (E : ℤ) (hE : -126 ≤ E) (h1 : (2 : ℝ) ^ E ≤ t) (h2 : t < (2 : ℝ) ^ (E + 1)) : power t = E + 1 := by
  have hp : (0 : ℝ) < (2 : ℝ) ^ E := by positivity
  have ht : 0 < t := lt_of_lt_of_le hp h1
  have hl : 0 < Real.log 2 := Real.log_pos (by norm_num)
  unfold power
  rw [if_neg (not_lt.2 (le_trans (zpow_le_zpow_right₀ (by norm_num) hE) h1))]
  congr 1
  rw [Int.floor_eq_iff]
  constructor
  · rw [le_div_iff₀ hl, ← Real.log_zpow]
    exact Real.log_le_log hp h1
  · rw [div_lt_iff₀ hl, show ((E : ℝ) + 1) = ((E + 1 : ℤ) : ℝ) by push_cast; ring, ← Real.log_zpow]
    exact Real.log_lt_log ht h2

/-- The scale read from its word is the power of two, and so is its reciprocal. -/
theorem scaleW_eq (t : ℝ) (h0 : 0 ≤ t) (h : t < (2 : ℝ) ^ (121 : ℤ)) :
    Ideal.ofBits .f32 (scaleW (t : EReal)) = (((2 : ℝ) ^ power t : ℝ) : EReal)
    ∧ Ideal.ofBits .f32 (2130706432#32 - scaleW (t : EReal)) = (((2 : ℝ) ^ (-power t) : ℝ) : EReal) := by
  obtain ⟨E, e, f1, f2, f3⟩ := found_search (t : EReal) (EReal.coe_nonneg.2 h0)
  have hE : E < 248 := by
    by_contra hc
    have mono : ∀ n, 248 ≤ n → n ≤ 255 → (((2 : ℝ) ^ (121 : ℤ) : ℝ) : EReal) ≤ pw n := by
      intro n h1 h2
      rcases Nat.lt_or_ge n 255 with h3 | h3
      · rw [pw_mid n (by omega) (by omega)]
        exact EReal.coe_le_coe_iff.2 (zpow_le_zpow_right₀ (by norm_num) (by omega))
      · obtain rfl : n = 255 := by omega
        rw [pw_top]; exact le_top
    exact absurd (lt_of_lt_of_le (EReal.coe_lt_coe_iff.2 h) (mono E (by omega) (by omega))) (not_lt.2 f2)
  have f3 := f3 (by omega)
  rcases Nat.eq_zero_or_pos E with rfl | h1
  · have hw : scaleW (t : EReal) = wd 127 := by
      unfold scaleW
      rw [e, if_pos (.inl (wd_lit 0 0#32 (by decide)).symm)]
      exact wd_lit 127 _ (by decide)
    have hp : power t = 0 := by
      rw [pw_mid 1 (by omega) (by omega)] at f3
      exact if_pos (EReal.coe_lt_coe_iff.1 f3)
    rw [hw, hp]
    have := pw_mid 127 (by omega) (by omega)
    rw [wd_lit 254 2130706432#32 (by decide), wd_sub 254 127 (by omega) (by omega)]
    simp only [neg_zero]
    rw [pw] at this
    exact ⟨this, this⟩
  · rw [pw_mid E h1 (by omega)] at f2
    rw [pw_mid (E + 1) (by omega) (by omega)] at f3
    have hp := power_eq t ((E : ℤ) - 127) (by omega) (EReal.coe_le_coe_iff.1 f2) (by
      have := EReal.coe_lt_coe_iff.1 f3
      push_cast at this; rwa [show (E : ℤ) - 127 + 1 = E + 1 - 127 by ring])
    have hw : scaleW (t : EReal) = wd (E + 1) := by
      have n1 : wd E ≠ 0#32 := by
        intro h; have := congrArg BitVec.toNat h; rw [wd_toNat E (by omega)] at this; simp at this; omega
      have n2 : wd E ≠ 2139095040#32 := by
        intro h; have := congrArg BitVec.toNat h; rw [wd_toNat E (by omega)] at this; simp at this; omega
      unfold scaleW
      rw [e, if_neg (by rintro (h | h); exacts [n1 h, n2 h]), wd_lit 1 8388608#32 (by decide), wd_add]
    rw [hw, hp, wd_lit 254 2130706432#32 (by decide), wd_sub 254 (E + 1) (by omega) (by omega)]
    constructor
    · have := pw_mid (E + 1) (by omega) (by omega)
      rw [pw] at this
      rw [this]
      congr 2; push_cast; ring
    · have := pw_mid (254 - (E + 1)) (by omega) (by omega)
      rw [pw] at this
      rw [this]
      congr 2
      rw [Nat.cast_sub (by omega)]; push_cast; ring

end Cert.Spec

end
-- ==== Proof.Rank.lean ====
/- The pruning test of the kernel and the ranks of a group of four. -/
module

public import proofs.«01_k».proof.Proof.Spec

@[expose] public section

set_option maxRecDepth 16384

noncomputable section

namespace Cert.Spec

open Idealize.ShloMosaic

/-- The kernel's test for a dropped element, from its partner and the larger and smaller of the other pair, holds exactly
    when two of the group rank before it. -/
theorem dropped_iff {α : Type} [LinearOrder α] (y : Fin 4 → α) (p : Fin 4) (m a b : Fin 4) (hm : m.val = p.val ^^^ 1)
    (ha : a.val = p.val ^^^ 2) (hb : b.val = p.val ^^^ 3) (s : α)
    (hs : s = if y p < y m ∨ (p.val % 2 = 1 ∧ y m = y p) then max (y a) (y b) else min (y a) (y b)) :
    (y p < s ∨ (2 ≤ p.val ∧ s = y p))
      ↔ 2 ≤ (@Finset.filter _ (fun q => y p < y q ∨ (y q = y p ∧ q.val < p.val)) (fun _ => Classical.propDecidable _) Finset.univ).card := by
  rw [Finset.card_filter, Fin.sum_univ_four]
  subst hs
  obtain rfl | rfl | rfl | rfl := (by decide : ∀ p : Fin 4, p = 0 ∨ p = 1 ∨ p = 2 ∨ p = 3) p
  · obtain rfl : m = 1 := Fin.ext (hm.trans (by decide))
    obtain rfl : a = 2 := Fin.ext (ha.trans (by decide))
    obtain rfl : b = 3 := Fin.ext (hb.trans (by decide))
    clear hm ha hb
    rcases lt_trichotomy (y 0) (y 1) with h | h | h <;> rcases lt_trichotomy (y 0) (y 2) with h' | h' | h' <;> rcases lt_trichotomy (y 0) (y 3) with h'' | h'' | h'' <;>
      simp_all [lt_max_iff, lt_min_iff, not_lt_of_gt, ne_of_gt, ne_of_lt, le_of_lt]
  · obtain rfl : m = 0 := Fin.ext (hm.trans (by decide))
    obtain rfl : a = 3 := Fin.ext (ha.trans (by decide))
    obtain rfl : b = 2 := Fin.ext (hb.trans (by decide))
    clear hm ha hb
    rcases lt_trichotomy (y 1) (y 0) with h | h | h <;> rcases lt_trichotomy (y 1) (y 2) with h' | h' | h' <;> rcases lt_trichotomy (y 1) (y 3) with h'' | h'' | h'' <;>
      simp_all [lt_max_iff, lt_min_iff, not_lt_of_gt, ne_of_gt, ne_of_lt, le_of_lt]
  · obtain rfl : m = 3 := Fin.ext (hm.trans (by decide))
    obtain rfl : a = 0 := Fin.ext (ha.trans (by decide))
    obtain rfl : b = 1 := Fin.ext (hb.trans (by decide))
    clear hm ha hb
    rcases lt_trichotomy (y 2) (y 0) with h | h | h <;> rcases lt_trichotomy (y 2) (y 1) with h' | h' | h' <;> rcases lt_trichotomy (y 2) (y 3) with h'' | h'' | h'' <;>
      simp_all [lt_max_iff, lt_min_iff, not_lt_of_gt, ne_of_gt, ne_of_lt, le_of_lt]
  · obtain rfl : m = 2 := Fin.ext (hm.trans (by decide))
    obtain rfl : a = 1 := Fin.ext (ha.trans (by decide))
    obtain rfl : b = 0 := Fin.ext (hb.trans (by decide))
    clear hm ha hb
    rcases lt_trichotomy (y 3) (y 0) with h | h | h <;> rcases lt_trichotomy (y 3) (y 1) with h' | h' | h' <;> rcases lt_trichotomy (y 3) (y 2) with h'' | h'' | h'' <;>
      simp_all [lt_max_iff, lt_min_iff, not_lt_of_gt, ne_of_gt, ne_of_lt, le_of_lt]

end Cert.Spec

end
-- ==== Proof.Tile.lean ====
/- One trip at the ideal values: the codes, scales and dequantised codes of its 32 rows are those of `Spec`, where the eleven
   tiles hold the rows' columns in order and every input is below 2^64. -/
module

public import proofs.«01_k».proof.Proof.Elements
public import proofs.«01_k».proof.Proof.Power
public import proofs.«01_k».proof.Proof.Rank

@[expose] public section

set_option maxRecDepth 16384

noncomputable section

namespace Cert.KernelIdeal.Form

open Idealize.ShloMosaic Idealize.ShloMosaic.TcCoe Idealize.ShloMosaic.Tactic
open Cert.KernelIdeal Cert.KernelIdeal.Gen Cert.Spec

/-- The column that lane `l` of tile `j` holds. -/
def tileCol (j : Fin 11) (l : Fin 128) : Fin 1408 := ⟨128 * j.val + l.val, by omega⟩

/-- The tiles hold the columns of `u` in row `r`. -/
def Holds (T : Fin 11 → Vec Ideal S32x128 .bf16) (r : Fin 32) (u : Fin 1408 → EReal) : Prop :=
  ∀ j l, T j (ix2 r l) = u (tileCol j l)

/-- Every input of the row is below 2^64. -/
def InRange (u : Fin 1408 → EReal) : Prop := ∀ c, u c < Ideal.ofBits .f32 0x5F800000#32

theorem clip1_eq (v : EReal) (h : v < Ideal.ofBits .f32 0x5F800000#32) : clip1 v = ((act v : ℝ) : EReal) := by
  rw [coe_act v h, clip1, max_comm, ofBits_huge_bf16, min_eq_right]
  rw [ofBits_huge_f32] at h
  exact max_le h.le (EReal.coe_nonneg.2 (by norm_num))

theorem member_lane (j : Fin 11) (l : Fin 128) (q : Fin 4) :
    member (tileCol j l) q = tileCol j ⟨4 * (l.val / 4) + q.val, by omega⟩ := by
  apply Fin.ext; simp only [member, tileCol]; omega

variable {T : Fin 11 → Vec Ideal S32x128 .bf16} {r : Fin 32} {u : Fin 1408 → EReal}

/-- A tile after pruning. -/
theorem prune_eq (hT : Holds T r u) (hu : InRange u) (j : Fin 11) (l : Fin 128) :
    pruneT (T j) (ix2 r l) = ((pruned u (tileCol j l) : ℝ) : EReal) := by
  rw [pruneT_apply]
  simp only [hT j, clip1_eq _ (hu _)]
  let p : Fin 4 := ⟨l.val % 4, by omega⟩
  let y : Fin 4 → EReal := fun q => ((act (u (member (tileCol j l) q)) : ℝ) : EReal)
  have lanes : ∀ l : Fin 128, (l.val = 4 * (l.val / 4) + l.val % 4) ∧ ((flipLane 1 l).val = 4 * (l.val / 4) + (l.val % 4 ^^^ 1))
      ∧ ((flipLane 2 l).val = 4 * (l.val / 4) + (l.val % 4 ^^^ 2)) ∧ ((flipLane 1 (flipLane 2 l)).val = 4 * (l.val / 4) + (l.val % 4 ^^^ 3)) := by
    decide +kernel
  obtain ⟨l0, l1, l2, l3⟩ := lanes l
  have x1 : ∀ n : Fin 4, (n.val ^^^ 1) < 4 ∧ (n.val ^^^ 2) < 4 ∧ (n.val ^^^ 3) < 4 := by decide
  obtain ⟨b1, b2, b3⟩ := x1 p
  have y0 : ((act (u (tileCol j l)) : ℝ) : EReal) = y p := by
    simp only [y, member_lane]; congr 4; exact Fin.ext l0
  have y1 : ((act (u (tileCol j (flipLane 1 l))) : ℝ) : EReal) = y ⟨p.val ^^^ 1, b1⟩ := by
    simp only [y, member_lane]; congr 4; exact Fin.ext l1
  have y2 : ((act (u (tileCol j (flipLane 2 l))) : ℝ) : EReal) = y ⟨p.val ^^^ 2, b2⟩ := by
    simp only [y, member_lane]; congr 4; exact Fin.ext l2
  have y3 : ((act (u (tileCol j (flipLane 1 (flipLane 2 l)))) : ℝ) : EReal) = y ⟨p.val ^^^ 3, b3⟩ := by
    simp only [y, member_lane]; congr 4; exact Fin.ext l3
  have hr : dropped l (y p) (y ⟨p.val ^^^ 1, b1⟩) (y ⟨p.val ^^^ 2, b2⟩) (y ⟨p.val ^^^ 3, b3⟩) ↔ 2 ≤ rank u (tileCol j l) := by
    have key := dropped_iff y p ⟨p.val ^^^ 1, b1⟩ ⟨p.val ^^^ 2, b2⟩ ⟨p.val ^^^ 3, b3⟩ rfl rfl rfl _ rfl
    have e2 : p.val % 2 = l.val % 2 := by show l.val % 4 % 2 = l.val % 2; omega
    rw [e2] at key
    refine Iff.trans ?_ (key.trans ?_)
    · rfl
    · unfold rank
      have : (Finset.univ.filter fun q => beats u (tileCol j l) q) = (@Finset.filter _ (fun q => y p < y q ∨ (y q = y p ∧ q.val < p.val)) (fun _ => Classical.propDecidable _) Finset.univ) := by
        ext q
        refine (Finset.mem_filter (p := fun q => beats u (tileCol j l) q)).trans (Iff.trans ?_ (@Finset.mem_filter _ _ (fun _ => Classical.propDecidable _) _ _).symm)
        refine and_congr_right fun _ => ?_
        rw [← y0]
        simp only [y, EReal.coe_lt_coe_iff, EReal.coe_eq_coe_iff]
        have e4 : p.val = (tileCol j l).val % 4 := by show l.val % 4 = (128 * j.val + l.val) % 4; omega
        rw [e4]
        rfl
      rw [this]
  rw [y0, y1, y2, y3, pruned]
  by_cases h : 2 ≤ rank u (tileCol j l)
  · rw [if_pos (hr.2 h), if_pos h]; rfl
  · rw [if_neg (fun hd => h (hr.1 hd)), if_neg h, ← y0]

/-- Block `b` of tile `j`. -/
def tileBlock (j : Fin 11) (b : Fin 4) : Fin 44 := ⟨4 * j.val + b.val, by omega⟩

/-- The merged tile's lane for tile `j` and block `b` holds that block's largest activation. -/
theorem merged_eq (hT : Holds T r u) (hu : InRange u) (j : Fin 11) (b : Fin 4) :
    merged (fun j => gmaxT (T j)) (ix2 r (blockLane b j)) = ((peak u (tileBlock j b) : ℝ) : EReal) := by
  refine eq_of_forall_ge_iff fun z => ?_
  rw [merged_le, peak_le]
  have lanes : ∀ (j : Fin 11) (b : Fin 4) (q : Fin 8) (p : Fin 4),
      32 * b.val ≤ (flipLane ⟨p.val, by omega⟩ (flipLane ⟨4 * q.val, by omega⟩ (blockLane b j))).val ∧
      (flipLane ⟨p.val, by omega⟩ (flipLane ⟨4 * q.val, by omega⟩ (blockLane b j))).val < 32 * b.val + 32 := by decide +kernel
  have lanes' : ∀ (j : Fin 11) (b : Fin 4) (i : Fin 32), ∃ (q : Fin 8) (p : Fin 4),
      (flipLane ⟨p.val, by omega⟩ (flipLane ⟨4 * q.val, by omega⟩ (blockLane b j))).val = 32 * b.val + i.val := by decide +kernel
  simp only [gmaxT_le, hT j, clip1_eq _ (hu _)]
  constructor
  · intro h i
    obtain ⟨q, p, e⟩ := lanes' j b i
    have := h q p
    rwa [show tileCol j (flipLane ⟨p.val, by omega⟩ (flipLane ⟨4 * q.val, by omega⟩ (blockLane b j))) = col (tileBlock j b) i from
      Fin.ext (by simp only [tileCol, col, tileBlock, e]; omega)] at this
  · intro h q p
    obtain ⟨e1, e2⟩ := lanes j b q p
    have := h ⟨(flipLane ⟨p.val, by omega⟩ (flipLane ⟨4 * q.val, by omega⟩ (blockLane b j))).val - 32 * b.val, by omega⟩
    rwa [show col (tileBlock j b) _ = tileCol j (flipLane ⟨p.val, by omega⟩ (flipLane ⟨4 * q.val, by omega⟩ (blockLane b j))) from
      Fin.ext (by simp only [tileCol, col, tileBlock]; omega)] at this

/-- The number that the scales of a trip come from. -/
def tripS (T : Fin 11 → Vec Ideal S32x128 .bf16) : FVec Ideal S32x128 .f32 := squareT (merged fun j => gmaxT (T j))

theorem square_eq (hT : Holds T r u) (hu : InRange u) (j : Fin 11) (b : Fin 4) :
    tripS T (ix2 r (blockLane b j)) = ((peak u (tileBlock j b) * peak u (tileBlock j b) * kappa : ℝ) : EReal) := by
  pointwise [tripS, squareT, merged_eq hT hu]
  rw [kappa_bits, ← EReal.coe_mul, ← EReal.coe_mul]

theorem stepE_apply (t : FVec Ideal S32x128 .f32) (b : BitVec 32) (e : IVec S32x128 32) (i : S32x128.Idx) :
    stepE t b e i = stepW (t i) b (e i) := rfl

theorem expT_apply (t : FVec Ideal S32x128 .f32) (r : Fin 32) (l : Fin 128) : expT t (ix2 r l) = searchW (t (ix2 r l)) := by
  unfold expT searchW
  rw [stepE_apply, stepE_apply, stepE_apply, stepE_apply, stepE_apply, stepE_apply, stepE_apply, stepE_apply]
  generalize t (ix2 r l) = x
  congr 1

theorem wordT_apply (t : FVec Ideal S32x128 .f32) (r : Fin 32) (l : Fin 128) : wordT t (ix2 r l) = scaleW (t (ix2 r l)) := by
  pointwise [wordT, expT_apply]
  unfold scaleW
  generalize searchW (t (ix2 r l)) = e
  by_cases h0 : e = 0#32
  · rw [if_pos (.inl h0), h0]; rfl
  · by_cases h1 : e = 2139095040#32
    · rw [if_pos (.inr h1), h1]; rfl
    · rw [if_neg (by tauto)]
      have g0 : (e == 0#32) = false := by simpa using h0
      have g1 : (e == 2139095040#32) = false := by simpa using h1
      simp [g0, g1, IntOp.cmpi, IntOp.ori, IntOp.addi, Scalar.select]

theorem scaleT_eq (hT : Holds T r u) (hu : InRange u) (j : Fin 11) (b : Fin 4) :
    scaleT (tripS T) (ix2 r (blockLane b j)) = ((scale u (tileBlock j b) : ℝ) : EReal) := by
  show Ideal.ofBits .f32 (wordT (tripS T) (ix2 r (blockLane b j))) = _
  rw [wordT_apply, square_eq hT hu, (scaleW_eq _ (level_nonneg u _) (level_lt u hu _)).1]
  rfl

theorem invT_eq (hT : Holds T r u) (hu : InRange u) (j : Fin 11) (b : Fin 4) :
    invT (tripS T) (ix2 r (blockLane b j)) = (((2 : ℝ) ^ (-blockPower u (tileBlock j b)) : ℝ) : EReal) := by
  show Ideal.ofBits .f32 (2130706432#32 - wordT (tripS T) (ix2 r (blockLane b j))) = _
  rw [wordT_apply, square_eq hT hu, (scaleW_eq _ (level_nonneg u _) (level_lt u hu _)).2]
  rfl

theorem spreadLane_eq (j : Fin 11) (l : Fin 128) : spreadLane j l = blockLane ⟨l.val / 32, by omega⟩ j := rfl

theorem blockOf_tile (j : Fin 11) (l : Fin 128) : blockOf (tileCol j l) = tileBlock j ⟨l.val / 32, by omega⟩ := by
  apply Fin.ext; simp only [blockOf, tileCol, tileBlock]; omega

/-- The codes of tile `j`. -/
theorem codes_eq (hT : Holds T r u) (hu : InRange u) (j : Fin 11) (l : Fin 128) :
    codesT (T j) (invT (tripS T)) (BitVec.ofNat 32 j.val) (ix2 r l) = ((code u (tileCol j l) : ℝ) : EReal) := by
  have h1 : permB (truncf .bf16 (invT (tripS T)) bitsLt_bf16_f32) (spread (BitVec.ofNat 32 j.val)) (ix2 r l)
      = (((2 : ℝ) ^ (-blockPower u (blockOf (tileCol j l))) : ℝ) : EReal) := by
    rw [permB_spread, spreadLane_eq, blockOf_tile]
    exact invT_eq hT hu j _
  pointwise [codesT, h1, prune_eq hT hu]
  rw [ofBits_448_f32, ofBits_n448_f32, ← EReal.coe_mul, ← EReal.coe_mul, ← EReal.coe_strictMono.monotone.map_max, ← EReal.coe_strictMono.monotone.map_min]
  rfl

/-- The scales of the rows. -/
theorem scales_eq (hT : Holds T r u) (hu : InRange u) (b : Fin 44) :
    scalesT (scaleT (tripS T)) (ix2 r b) = ((scale u b : ℝ) : EReal) := by
  have h1 : perm (scaleT (tripS T)) source (ix2 r (⟨b.val, by omega⟩ : Fin 128)) = ((scale u b : ℝ) : EReal) := by
    rw [perm_source]
    rw [show sourceLane ⟨b.val, by omega⟩ = blockLane ⟨b.val % 4, by omega⟩ ⟨b.val / 4, by omega⟩ from rfl, scaleT_eq hT hu]
    rw [show tileBlock ⟨b.val / 4, by omega⟩ ⟨b.val % 4, by omega⟩ = b from Fin.ext (by simp only [tileBlock]; omega)]
  refine Eq.trans ?_ h1
  pointwise [scalesT]

/-- The codes of tile `j` times their scales. -/
theorem hw_eq (hT : Holds T r u) (hu : InRange u) (j : Fin 11) (l : Fin 128) :
    hwT (T j) (scaleT (tripS T)) (invT (tripS T)) (BitVec.ofNat 32 j.val) (ix2 r l) = ((dequant u (tileCol j l) : ℝ) : EReal) := by
  have h1 : permB (truncf .bf16 (scaleT (tripS T)) bitsLt_bf16_f32) (spread (BitVec.ofNat 32 j.val)) (ix2 r l)
      = ((scale u (blockOf (tileCol j l)) : ℝ) : EReal) := by
    rw [permB_spread, spreadLane_eq, blockOf_tile]
    exact scaleT_eq hT hu j _
  pointwise [hwT, h1, codes_eq hT hu]
  rw [← EReal.coe_mul]
  rfl

end Cert.KernelIdeal.Form

end
-- ==== Proof.Block.lean ====
/- What one block computes: the three outputs of a grid point, over its 512 rows, are the codes, scales and products of
   `Spec` on the rows of the input block. -/
module

public import proofs.«01_k».proof.Proof.Tile
public import proofs.«01_k».proof.Proof.Gen.KernelIdeal.Value
public import Idealize.ShloMosaic.Lib.WholeRead

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.KernelIdeal.Form Cert.Spec

/-- Row `R` of a block of 512 rows. -/
def rowOf (x : Vec Ideal S512x1408 .bf16) (R : Fin 512) : Fin 1408 → EReal := fun c => x (ix2 R c)

/-- Every input of the block is below 2^64. -/
def BlockInRange (x : Vec Ideal S512x1408 .bf16) : Prop := ∀ R, InRange (rowOf x R)

theorem trips_le (k : Fin k0_t1_loop.trips) : k.val < 16 := lt_of_lt_of_le k.isLt k0_t1_abs.2.1

theorem emb_tile {off : Fin S512x1408.rank → ℕ} (inb : ∀ a, off a + S32x128.size a ≤ S512x1408.size a) (k : Fin k0_t1_loop.trips) (j : Fin 11)
    (h : off = ![32 * k.val, 128 * j.val]) (r : Fin 32) (l : Fin 128) :
    (Rect.unit (s := S512x1408) off S32x128.size inb).emb (ix2 r l) = ix2 (⟨32 * k.val + r.val, by have := trips_le k; omega⟩ : Fin 512) (tileCol j l) := by
  subst h
  funext a; apply Fin.ext
  fin_cases a
  · show 32 * k.val + 1 * r.val = 32 * k.val + r.val; omega
  · show 128 * j.val + 1 * l.val = 128 * j.val + l.val; omega

theorem load_tile (arg1 : Memref sig .tc .vmem S512x1408 .bf16) (harg1 : arg1.IsWhole) (x : Vec Ideal S512x1408 .bf16)
    {off : Fin S512x1408.rank → ℕ} (inb : ∀ a, off a + S32x128.size a ≤ S512x1408.size a) (k : Fin k0_t1_loop.trips) (j : Fin 11)
    (h : off = ![32 * k.val, 128 * j.val]) (r : Fin 32) (l : Fin 128) :
    arg1.view.readAt (Elt Ideal) (Rect.unit (s := S512x1408) off S32x128.size inb).toLoadRect (harg1.unread x) (ix2 r l)
      = rowOf x ⟨32 * k.val + r.val, by have := trips_le k; omega⟩ (tileCol j l) := by
  refine (harg1.readAt_unread x _ _).trans ?_
  exact congrArg x (emb_tile inb k j h r l)

/-- The tiles of a trip hold the rows of the block. -/
theorem holds (arg1 : Memref sig .tc .vmem S512x1408 .bf16) (harg1 : arg1.IsWhole) (x : Vec Ideal S512x1408 .bf16) (k : Fin k0_t1_loop.trips) (r : Fin 32) :
    Holds (tiles arg1 (harg1.unread x) k) r (rowOf x ⟨32 * k.val + r.val, by have := trips_le k; omega⟩) := by
  intro j l
  match j with
  | 0 => exact load_tile arg1 harg1 x _ k 0 (k0_off1_eq k) r l
  | 1 => exact load_tile arg1 harg1 x _ k 1 (k0_off2_eq k) r l
  | 2 => exact load_tile arg1 harg1 x _ k 2 (k0_off3_eq k) r l
  | 3 => exact load_tile arg1 harg1 x _ k 3 (k0_off4_eq k) r l
  | 4 => exact load_tile arg1 harg1 x _ k 4 (k0_off5_eq k) r l
  | 5 => exact load_tile arg1 harg1 x _ k 5 (k0_off6_eq k) r l
  | 6 => exact load_tile arg1 harg1 x _ k 6 (k0_off7_eq k) r l
  | 7 => exact load_tile arg1 harg1 x _ k 7 (k0_off8_eq k) r l
  | 8 => exact load_tile arg1 harg1 x _ k 8 (k0_off9_eq k) r l
  | 9 => exact load_tile arg1 harg1 x _ k 9 (k0_off10_eq k) r l
  | 10 => exact load_tile arg1 harg1 x _ k 10 (k0_off11_eq k) r l

/-- The codes of a block. -/
def codesB (x : Vec Ideal S512x1408 .bf16) : S512x1408.Idx → EReal := fun y => ((code (rowOf x (y 0)) (y 1) : ℝ) : EReal)
/-- The dequantised codes of a block. -/
def dequantB (x : Vec Ideal S512x1408 .bf16) : S512x1408.Idx → EReal := fun y => ((dequant (rowOf x (y 0)) (y 1) : ℝ) : EReal)
/-- The scales of a block. -/
def scalesB (x : Vec Ideal S512x1408 .bf16) : S512x44.Idx → EReal := fun y => ((scale (rowOf x (y 0)) (y 1) : ℝ) : EReal)

section
variable (arg1 : Memref sig .tc .vmem S512x1408 .bf16) (harg1 : arg1.IsWhole) (x : Vec Ideal S512x1408 .bf16) (hx : BlockInRange x)
include hx

theorem codes_piece {off : Fin S512x1408.rank → ℕ} (inb : ∀ a, off a + S32x128.size a ≤ S512x1408.size a) (k : Fin k0_t1_loop.trips) (j : Fin 11)
    (h : off = ![32 * k.val, 128 * j.val]) (y : S32x128.Idx) :
    codesT (tiles arg1 (harg1.unread x) k j) (invT (tripT arg1 (harg1.unread x) k)) (BitVec.ofNat 32 j.val) y
      = codesB x ((Rect.unit (s := S512x1408) off S32x128.size inb).emb y) := by
  obtain ⟨r, l, rfl⟩ : ∃ (r : Fin 32) (l : Fin 128), y = ix2 r l := ⟨y 0, y 1, (ix2_eta y).symm⟩
  rw [emb_tile inb k j h]
  exact codes_eq (holds arg1 harg1 x k r) (hx _) j l

theorem hw_piece {off : Fin S512x1408.rank → ℕ} (inb : ∀ a, off a + S32x128.size a ≤ S512x1408.size a) (k : Fin k0_t1_loop.trips) (j : Fin 11)
    (h : off = ![32 * k.val, 128 * j.val]) (y : S32x128.Idx) :
    hwT (tiles arg1 (harg1.unread x) k j) (scaleT (tripT arg1 (harg1.unread x) k)) (invT (tripT arg1 (harg1.unread x) k)) (BitVec.ofNat 32 j.val) y
      = dequantB x ((Rect.unit (s := S512x1408) off S32x128.size inb).emb y) := by
  obtain ⟨r, l, rfl⟩ : ∃ (r : Fin 32) (l : Fin 128), y = ix2 r l := ⟨y 0, y 1, (ix2_eta y).symm⟩
  rw [emb_tile inb k j h]
  exact hw_eq (holds arg1 harg1 x k r) (hx _) j l

theorem scales_piece {off : Fin S512x44.rank → ℕ} (inb : ∀ a, off a + S32x44.size a ≤ S512x44.size a) (k : Fin k0_t1_loop.trips)
    (h : off = ![32 * k.val, 0]) (y : S32x44.Idx) :
    scalesT (scaleT (tripT arg1 (harg1.unread x) k)) y = scalesB x ((Rect.unit (s := S512x44) off S32x44.size inb).emb y) := by
  obtain ⟨r, b, rfl⟩ : ∃ (r : Fin 32) (b : Fin 44), y = ix2 r b := ⟨y 0, y 1, (ix2_eta y).symm⟩
  have he : (Rect.unit (s := S512x44) off S32x44.size inb).emb (ix2 r b) = ix2 (⟨32 * k.val + r.val, by have := trips_le k; omega⟩ : Fin 512) b := by
    subst h
    funext a; apply Fin.ext
    fin_cases a
    · show 32 * k.val + 1 * r.val = 32 * k.val + r.val; omega
    · show 0 + 1 * b.val = b.val; omega
  rw [he]
  exact scales_eq (holds arg1 harg1 x k r) (hx _) b

end

section
variable (c : Dev nD) (i : grid0.Coords) (arg1 : Memref sig .tc .vmem S512x1408 .bf16) (harg1 : arg1.IsWhole) (arg2 : Memref sig .tc .vmem S1408x2048 .fp8e4m3) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x1408 .fp8e4m3) (harg5 : arg5.IsWhole) (arg6 : Memref sig .tc .vmem S512x44 .f32) (harg6 : arg6.IsWhole) (arg7 : Memref sig .tc .vmem S512x1408 .bf16) (harg7 : arg7.IsWhole)
    (x : Vec Ideal S512x1408 .bf16) (hx : BlockInRange x)
include hx

/-- What trip `k` stores of the codes agrees with `codesB`. -/
theorem trip_codes_agree (𝒱 : Variants) (bd : Option 𝒱.V) (k : Fin k0_t1_loop.trips) :
    ∀ p ∈ (tripL_k0_t1 (F := Ideal) 𝒱 c bd i arg1 harg1 arg2 harg2 arg3 harg3 arg4 harg4 arg5 harg5 arg6 harg6 arg7 harg7 (harg1.unread x) k).1, ∀ y : p.1.shape.Idx, p.2 y = codesB x (p.1.emb y) := by
  rw [show (tripL_k0_t1 (F := Ideal) 𝒱 c bd i arg1 harg1 arg2 harg2 arg3 harg3 arg4 harg4 arg5 harg5 arg6 harg6 arg7 harg7 (harg1.unread x) k).1 = _ from trip_codes 𝒱 c bd i arg1 harg1 arg2 harg2 arg3 harg3 arg4 harg4 arg5 harg5 arg6 harg6 arg7 harg7 (harg1.unread x) k]
  refine List.forall_mem_cons.2 ⟨fun y => codes_piece arg1 harg1 x hx (k0_off11_inb k) k 10 (k0_off11_eq k) y, ?_⟩
  refine List.forall_mem_cons.2 ⟨fun y => codes_piece arg1 harg1 x hx (k0_off10_inb k) k 9 (k0_off10_eq k) y, ?_⟩
  refine List.forall_mem_cons.2 ⟨fun y => codes_piece arg1 harg1 x hx (k0_off9_inb k) k 8 (k0_off9_eq k) y, ?_⟩
  refine List.forall_mem_cons.2 ⟨fun y => codes_piece arg1 harg1 x hx (k0_off8_inb k) k 7 (k0_off8_eq k) y, ?_⟩
  refine List.forall_mem_cons.2 ⟨fun y => codes_piece arg1 harg1 x hx (k0_off7_inb k) k 6 (k0_off7_eq k) y, ?_⟩
  refine List.forall_mem_cons.2 ⟨fun y => codes_piece arg1 harg1 x hx (k0_off6_inb k) k 5 (k0_off6_eq k) y, ?_⟩
  refine List.forall_mem_cons.2 ⟨fun y => codes_piece arg1 harg1 x hx (k0_off5_inb k) k 4 (k0_off5_eq k) y, ?_⟩
  refine List.forall_mem_cons.2 ⟨fun y => codes_piece arg1 harg1 x hx (k0_off4_inb k) k 3 (k0_off4_eq k) y, ?_⟩
  refine List.forall_mem_cons.2 ⟨fun y => codes_piece arg1 harg1 x hx (k0_off3_inb k) k 2 (k0_off3_eq k) y, ?_⟩
  refine List.forall_mem_cons.2 ⟨fun y => codes_piece arg1 harg1 x hx (k0_off2_inb k) k 1 (k0_off2_eq k) y, ?_⟩
  refine List.forall_mem_cons.2 ⟨fun y => codes_piece arg1 harg1 x hx (k0_off1_inb k) k 0 (k0_off1_eq k) y, ?_⟩
  exact fun p hp => absurd hp List.not_mem_nil

/-- What trip `k` stores of the dequantised codes agrees with `dequantB`. -/
theorem trip_hw_agree (𝒱 : Variants) (bd : Option 𝒱.V) (k : Fin k0_t1_loop.trips) :
    ∀ p ∈ (tripL_k0_t1 (F := Ideal) 𝒱 c bd i arg1 harg1 arg2 harg2 arg3 harg3 arg4 harg4 arg5 harg5 arg6 harg6 arg7 harg7 (harg1.unread x) k).2.2, ∀ y : p.1.shape.Idx, p.2 y = dequantB x (p.1.emb y) := by
  rw [show (tripL_k0_t1 (F := Ideal) 𝒱 c bd i arg1 harg1 arg2 harg2 arg3 harg3 arg4 harg4 arg5 harg5 arg6 harg6 arg7 harg7 (harg1.unread x) k).2.2 = _ from trip_hw 𝒱 c bd i arg1 harg1 arg2 harg2 arg3 harg3 arg4 harg4 arg5 harg5 arg6 harg6 arg7 harg7 (harg1.unread x) k]
  refine List.forall_mem_cons.2 ⟨fun y => hw_piece arg1 harg1 x hx (k0_off11_inb k) k 10 (k0_off11_eq k) y, ?_⟩
  refine List.forall_mem_cons.2 ⟨fun y => hw_piece arg1 harg1 x hx (k0_off10_inb k) k 9 (k0_off10_eq k) y, ?_⟩
  refine List.forall_mem_cons.2 ⟨fun y => hw_piece arg1 harg1 x hx (k0_off9_inb k) k 8 (k0_off9_eq k) y, ?_⟩
  refine List.forall_mem_cons.2 ⟨fun y => hw_piece arg1 harg1 x hx (k0_off8_inb k) k 7 (k0_off8_eq k) y, ?_⟩
  refine List.forall_mem_cons.2 ⟨fun y => hw_piece arg1 harg1 x hx (k0_off7_inb k) k 6 (k0_off7_eq k) y, ?_⟩
  refine List.forall_mem_cons.2 ⟨fun y => hw_piece arg1 harg1 x hx (k0_off6_inb k) k 5 (k0_off6_eq k) y, ?_⟩
  refine List.forall_mem_cons.2 ⟨fun y => hw_piece arg1 harg1 x hx (k0_off5_inb k) k 4 (k0_off5_eq k) y, ?_⟩
  refine List.forall_mem_cons.2 ⟨fun y => hw_piece arg1 harg1 x hx (k0_off4_inb k) k 3 (k0_off4_eq k) y, ?_⟩
  refine List.forall_mem_cons.2 ⟨fun y => hw_piece arg1 harg1 x hx (k0_off3_inb k) k 2 (k0_off3_eq k) y, ?_⟩
  refine List.forall_mem_cons.2 ⟨fun y => hw_piece arg1 harg1 x hx (k0_off2_inb k) k 1 (k0_off2_eq k) y, ?_⟩
  refine List.forall_mem_cons.2 ⟨fun y => hw_piece arg1 harg1 x hx (k0_off1_inb k) k 0 (k0_off1_eq k) y, ?_⟩
  exact fun p hp => absurd hp List.not_mem_nil

/-- What trip `k` stores of the scales agrees with `scalesB`. -/
theorem trip_scales_agree (𝒱 : Variants) (bd : Option 𝒱.V) (k : Fin k0_t1_loop.trips) :
    ∀ p ∈ (tripL_k0_t1 (F := Ideal) 𝒱 c bd i arg1 harg1 arg2 harg2 arg3 harg3 arg4 harg4 arg5 harg5 arg6 harg6 arg7 harg7 (harg1.unread x) k).2.1, ∀ y : p.1.shape.Idx, p.2 y = scalesB x (p.1.emb y) := by
  rw [show (tripL_k0_t1 (F := Ideal) 𝒱 c bd i arg1 harg1 arg2 harg2 arg3 harg3 arg4 harg4 arg5 harg5 arg6 harg6 arg7 harg7 (harg1.unread x) k).2.1 = _ from trip_scales 𝒱 c bd i arg1 harg1 arg2 harg2 arg3 harg3 arg4 harg4 arg5 harg5 arg6 harg6 arg7 harg7 (harg1.unread x) k]
  refine List.forall_mem_cons.2 ⟨fun y => scales_piece arg1 harg1 x hx (k0_off12_inb k) k (k0_off12_eq k) y, ?_⟩
  exact fun p hp => absurd hp List.not_mem_nil

/-- What the first `n` trips store agrees with the codes, scales and dequantised codes of the block. -/
theorem pieces_agree (𝒱 : Variants) (bd : Option 𝒱.V) (n : ℕ) (hn : n ≤ k0_t1_loop.trips) :
    (∀ p ∈ (pb_k0_t1 (F := Ideal) 𝒱 c bd i arg1 harg1 arg2 harg2 arg3 harg3 arg4 harg4 arg5 harg5 arg6 harg6 arg7 harg7 (harg1.unread x) n).1, ∀ y : p.1.shape.Idx, p.2 y = codesB x (p.1.emb y))
    ∧ (∀ p ∈ (pb_k0_t1 (F := Ideal) 𝒱 c bd i arg1 harg1 arg2 harg2 arg3 harg3 arg4 harg4 arg5 harg5 arg6 harg6 arg7 harg7 (harg1.unread x) n).2.1, ∀ y : p.1.shape.Idx, p.2 y = scalesB x (p.1.emb y))
    ∧ (∀ p ∈ (pb_k0_t1 (F := Ideal) 𝒱 c bd i arg1 harg1 arg2 harg2 arg3 harg3 arg4 harg4 arg5 harg5 arg6 harg6 arg7 harg7 (harg1.unread x) n).2.2, ∀ y : p.1.shape.Idx, p.2 y = dequantB x (p.1.emb y)) := by
  induction n with
  | zero => exact ⟨fun p hp => absurd hp List.not_mem_nil, fun p hp => absurd hp List.not_mem_nil, fun p hp => absurd hp List.not_mem_nil⟩
  | succ n ih =>
    obtain ⟨h1, h2, h3⟩ := ih (Nat.le_of_succ_le hn)
    rw [pb_k0_t1_succ 𝒱 c bd i arg1 harg1 arg2 harg2 arg3 harg3 arg4 harg4 arg5 harg5 arg6 harg6 arg7 harg7 (harg1.unread x) ⟨n, hn⟩]
    refine ⟨fun p hp => ?_, fun p hp => ?_, fun p hp => ?_⟩
    · rcases List.mem_append.1 hp with hp | hp
      · exact trip_codes_agree c i arg1 harg1 arg2 harg2 arg3 harg3 arg4 harg4 arg5 harg5 arg6 harg6 arg7 harg7 x hx 𝒱 bd ⟨n, hn⟩ p hp
      · exact h1 p hp
    · rcases List.mem_append.1 hp with hp | hp
      · exact trip_scales_agree c i arg1 harg1 arg2 harg2 arg3 harg3 arg4 harg4 arg5 harg5 arg6 harg6 arg7 harg7 x hx 𝒱 bd ⟨n, hn⟩ p hp
      · exact h2 p hp
    · rcases List.mem_append.1 hp with hp | hp
      · exact trip_hw_agree c i arg1 harg1 arg2 harg2 arg3 harg3 arg4 harg4 arg5 harg5 arg6 harg6 arg7 harg7 x hx 𝒱 bd ⟨n, hn⟩ p hp
      · exact h3 p hp

variable (x1 : Vec Ideal S1408x2048 .fp8e4m3) (x2 : Vec Ideal S1x2048 .f32)

/-- The codes a grid point leaves. -/
theorem out_codes (y : S512x1408.Idx) : out0_A_4 c i arg1 harg1 arg2 harg2 arg3 harg3 arg4 harg4 arg5 harg5 arg6 harg6 arg7 harg7 x x1 x2 y = codesB x y := by
  unfold out0_A_4
  rw [View.read_writes_eq_canon VO0_4 _ _ (cover0_A_4 c i arg1 harg1 arg2 harg2 arg3 harg3 arg4 harg4 arg5 harg5 arg6 harg6 arg7 harg7 x x1 x2)]
  refine View.canon_apply_of_pieces (codesB x) _ ?_ y (cover0_A_4 c i arg1 harg1 arg2 harg2 arg3 harg3 arg4 harg4 arg5 harg5 arg6 harg6 arg7 harg7 x x1 x2 y)
  exact (pieces_agree c i arg1 harg1 arg2 harg2 arg3 harg3 arg4 harg4 arg5 harg5 arg6 harg6 arg7 harg7 x hx Variants.none none k0_t1_loop.trips le_rfl).1

/-- The scales a grid point leaves. -/
theorem out_scales (y : S512x44.Idx) : out0_A_5 c i arg1 harg1 arg2 harg2 arg3 harg3 arg4 harg4 arg5 harg5 arg6 harg6 arg7 harg7 x x1 x2 y = scalesB x y := by
  unfold out0_A_5
  rw [View.read_writes_eq_canon VO0_5 _ _ (cover0_A_5 c i arg1 harg1 arg2 harg2 arg3 harg3 arg4 harg4 arg5 harg5 arg6 harg6 arg7 harg7 x x1 x2)]
  refine View.canon_apply_of_pieces (scalesB x) _ ?_ y (cover0_A_5 c i arg1 harg1 arg2 harg2 arg3 harg3 arg4 harg4 arg5 harg5 arg6 harg6 arg7 harg7 x x1 x2 y)
  exact (pieces_agree c i arg1 harg1 arg2 harg2 arg3 harg3 arg4 harg4 arg5 harg5 arg6 harg6 arg7 harg7 x hx Variants.none none k0_t1_loop.trips le_rfl).2.1

omit hx in
/-- The dequantised codes that the sixteen trips store cover the scratch buffer. -/
theorem scratch_cover (y : S512x1408.Idx) :
    ∃ pc ∈ (pb_k0_t1 (F := Ideal) Variants.none c none i arg1 harg1 arg2 harg2 arg3 harg3 arg4 harg4 arg5 harg5 arg6 harg6 arg7 harg7 (harg1.unread x) k0_t1_loop.trips).2.2, y ∈ pc.1.set :=
  View.cover_of_tiledL (pb_k0_t1 (F := Ideal) Variants.none c none i arg1 harg1 arg2 harg2 arg3 harg3 arg4 harg4 arg5 harg5 arg6 harg6 arg7 harg7 (harg1.unread x) k0_t1_loop.trips).2.2 S32x128.size (by sl_kernel_rfl) y

/-- The scratch buffer, read back after the trips, holds the dequantised codes of the block. -/
theorem scratch_read :
    arg7.view.readCov (pb_k0_t1 (F := Ideal) Variants.none c none i arg1 harg1 arg2 harg2 arg3 harg3 arg4 harg4 arg5 harg5 arg6 harg6 arg7 harg7 (harg1.unread x) k0_t1_loop.trips).2.2
        (Rect.unit ![0, 0] ![512, 1408] inb_S512x1408_S512x1408_0_0).toLoadRect = dequantB x := by
  rw [View.readCov_eq_canon_ld arg7.view _ (Rect.unit ![0, 0] ![512, 1408] inb_S512x1408_S512x1408_0_0) (scratch_cover c i arg1 harg1 arg2 harg2 arg3 harg3 arg4 harg4 arg5 harg5 arg6 harg6 arg7 harg7 x),
    View.ld_unit_zero (by decide)]
  funext y
  exact View.canon_apply_of_pieces (dequantB x) _ (pieces_agree c i arg1 harg1 arg2 harg2 arg3 harg3 arg4 harg4 arg5 harg5 arg6 harg6 arg7 harg7 x hx Variants.none none k0_t1_loop.trips le_rfl).2.2 y
    (scratch_cover c i arg1 harg1 arg2 harg2 arg3 harg3 arg4 harg4 arg5 harg5 arg6 harg6 arg7 harg7 x y)

omit hx in
theorem product_apply (h : Vec Ideal S512x1408 .bf16) (R : Fin 512) (d : Fin 2048) :
    k0_pay2 h x1 x2 (ix2 R d) = (∑ k : Fin 1408, h (ix2 R k) * x1 (ix2 k d)) * x2 (ix2 (0 : Fin 1) d) := by
  pointwise [k0_pay2]

/-- The products a grid point leaves. -/
theorem out_product (R : Fin 512) (d : Fin 2048) :
    out0_A_3 c i arg1 harg1 arg2 harg2 arg3 harg3 arg4 harg4 arg5 harg5 arg6 harg6 arg7 harg7 x x1 x2 (ix2 R d) = product (rowOf x R) (fun c => x1 (ix2 c d)) (x2 (ix2 0 d)) := by
  unfold out0_A_3
  rw [View.read_writes_eq_canon VO0_3 _ _ (cover0_A_3 c i arg1 harg1 arg2 harg2 arg3 harg3 arg4 harg4 arg5 harg5 arg6 harg6 arg7 harg7 x x1 x2)]
  unfold kernelRun0_A
  dsimp only
  sl_unfold_words
  rw [View.canon_unit_zero (by decide)]
  rw [show (pb_k0_t1 Variants.none c none i arg1 harg1 arg2 harg2 arg3 harg3 arg4 harg4 arg5 harg5 arg6 harg6 arg7 harg7 (harg1.unread x) (Scf.trips (0#32) (Scalar.addi 0#32 16#32) 1#32)).2.2
      = (pb_k0_t1 (F := Ideal) Variants.none c none i arg1 harg1 arg2 harg2 arg3 harg3 arg4 harg4 arg5 harg5 arg6 harg6 arg7 harg7 (harg1.unread x) k0_t1_loop.trips).2.2 from rfl]
  rw [scratch_read c i arg1 harg1 arg2 harg2 arg3 harg3 arg4 harg4 arg5 harg5 arg6 harg6 arg7 harg7 x hx]
  refine (product_apply _ _ _ R d).trans ?_
  have e1 : View.readAt (Elt Ideal) arg2.view (Rect.unit ![0, 0] ![1408, 2048] inb_S1408x2048_S1408x2048_0_0).toLoadRect (harg2.unread x1) = x1 :=
    (congrArg (fun f => View.ld f (Rect.unit ![0, 0] ![1408, 2048] inb_S1408x2048_S1408x2048_0_0)) (harg2.read_unread x1)).trans (View.ld_unit_zero (by decide) _ x1)
  have e2 : View.readAt (Elt Ideal) arg3.view (Rect.unit ![0, 0] ![1, 2048] inb_S1x2048_S1x2048_0_0).toLoadRect (harg3.unread x2) = x2 :=
    (congrArg (fun f => View.ld f (Rect.unit ![0, 0] ![1, 2048] inb_S1x2048_S1x2048_0_0)) (harg3.read_unread x2)).trans (View.ld_unit_zero (by decide) _ x2)
  rw [e1, e2]
  rfl

end

end Cert.KernelIdeal.Block

end
-- ==== Proof.Rows.lean ====
/- The mathematics of `Spec` on whole arrays: each row of a result is a function of the same row of the activations. -/
module

public import proofs.«01_k».proof.Proof.Spec
public import Idealize.ShloMosaic.Lib.Pointwise

@[expose] public section

noncomputable section

namespace Cert.Spec

open Idealize.ShloMosaic

/-- Row `R` of the activations, the two leading axes flattened. -/
def rowAt (u : (⟨3, ![24, 1024, 1408]⟩ : Shape).Idx → EReal) (R : Fin 24576) : Fin 1408 → EReal :=
  fun c => u (ix3 (⟨R.val / 1024, by omega⟩ : Fin 24) (⟨R.val % 1024, by omega⟩ : Fin 1024) c)

/-- The codes of all rows. -/
def codesOf (u : (⟨3, ![24, 1024, 1408]⟩ : Shape).Idx → EReal) : (⟨2, ![24576, 1408]⟩ : Shape).Idx → EReal :=
  fun y => ((code (rowAt u (y 0)) (y 1) : ℝ) : EReal)

/-- The block scales of all rows. -/
def scalesOf (u : (⟨3, ![24, 1024, 1408]⟩ : Shape).Idx → EReal) : (⟨2, ![24576, 44]⟩ : Shape).Idx → EReal :=
  fun y => ((scale (rowAt u (y 0)) (y 1) : ℝ) : EReal)

/-- The products of all rows with the weights. -/
def productsOf (u : (⟨3, ![24, 1024, 1408]⟩ : Shape).Idx → EReal) (w : (⟨2, ![1408, 2048]⟩ : Shape).Idx → EReal)
    (ws : (⟨1, ![2048]⟩ : Shape).Idx → EReal) : (⟨2, ![24576, 2048]⟩ : Shape).Idx → EReal :=
  fun y => product (rowAt u (y 0)) (fun c => w (ix2 c (y 1))) (ws (ix1 (y 1)))

/-- Every activation is below 2^64. -/
def AllInRange (u : (⟨3, ![24, 1024, 1408]⟩ : Shape).Idx → EReal) : Prop := ∀ i, u i < Ideal.ofBits .f32 0x5F800000#32

theorem product_congr {u u' w w' : Fin 1408 → EReal} {s s' : EReal} (hu : u = u') (hw : ∀ k, w k = w' k) (hs : s = s') :
    product u w s = product u' w' s' := by
  rw [hu, funext hw, hs]

end Cert.Spec

end
-- ==== Proof.Array.lean ====
/- What the kernel's three result arrays hold after the run. The grid has forty-eight points; point `t` reads rows
   `512 t` to `512 t + 511` of the activations and writes the same rows of each result, so that each row of a result is
   a function of the same row of the activations (and of the weights and their scales). -/
module

public import proofs.«01_k».proof.Proof.Block
public import proofs.«01_k».proof.Proof.Rows
public import Idealize.ShloMosaic.Lib.Pipeline.ValueKit

@[expose] public section

set_option maxRecDepth 16384

noncomputable section

namespace Cert.KernelIdeal.Array

open Cert.KernelIdeal Cert.KernelIdeal.Gen Cert.Spec Cert.KernelIdeal.Block
open Idealize.ShloMosaic Idealize.ShloMosaic.TcCoe

variable (m : (ℓ : Loc nD τ sig) → Buf (Elt Ideal) ℓ) (c : Dev nD)

/-- Which block of each array a grid point works on. -/
theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧
    win0_3.index t = ![t.val, 0] ∧ win0_4.index t = ![t.val, 0] ∧ win0_5.index t = ![t.val, 0])

theorem point_lt (t : Fin cfg0.N) : t.val < 48 := t.isLt

/-- Row `R` of the block at point `t`, as a row of the whole array. -/
def arrayRow (t : Fin cfg0.N) (R : Fin 512) : Fin 24576 := ⟨512 * t.val + R.val, by have := point_lt t; omega⟩

theorem block_u (t : Fin cfg0.N) (R : Fin 512) :
    rowOf (iblk m c 0 t) R = rowAt (m ((c : Thread nD τ).loc main_arg0)) (arrayRow t R) := by
  funext l
  show iblk m c 0 t (ix2 R l) = _
  unfold rowAt arrayRow
  blk_simp [iblk, idx t]
  entry_read
  pointwise
  blk_ext [idx t]

theorem block_w (t : Fin cfg0.N) (l : Fin 1408) (d : Fin 2048) :
    iblk m c 1 t (ix2 l d) = m ((c : Thread nD τ).loc main_arg1) (ix2 l d) := by
  blk_ext [iblk, V, idx t]

theorem block_ws (t : Fin cfg0.N) (d : Fin 2048) :
    iblk m c 2 t (ix2 (0 : Fin 1) d) = m ((c : Thread nD τ).loc main_arg2) (ix1 d) := by
  blk_simp [iblk, idx t]
  entry_read
  pointwise
  blk_ext [idx t]

variable (hu : AllInRange (m ((c : Thread nD τ).loc main_arg0)))

include hu in
theorem block_in_range (t : Fin cfg0.N) : BlockInRange (iblk m c 0 t) := by
  intro R
  rw [block_u]
  exact fun l => hu _

include hu in
/-- The array of codes after the run. -/
theorem codes : (dats m 0 c).arrAt 4 cfg0.N = codesOf (m ((c : Thread nD τ).loc main_arg0)) := by
  refine (dats m 0 c).arrAt_eq_of_covers 4 _ (by decide +kernel) fun t hf y => ?_
  blk_simp
  obtain ⟨R, l, rfl⟩ : ∃ (R : Fin 512) (l : Fin 1408), y = ix2 R l := ⟨y 0, y 1, (ix2_eta y).symm⟩
  have he : ((win0_4.blk t).view.emb (ix2 R l)) = ix2 (arrayRow t R) l := by
    unfold arrayRow; blk_ext [idx t]
  rw [he, after0_4]
  refine (out_codes c (grid0.coords t) _ _ _ _ _ _ _ _ _ _ _ _ _ _ (iblk m c 0 t) (block_in_range m c hu t) (iblk m c 1 t) (iblk m c 2 t) (ix2 R l)).trans ?_
  show ((code (rowOf (iblk m c 0 t) R) l : ℝ) : EReal) = _
  rw [block_u]
  rfl

include hu in
/-- The array of scales after the run. -/
theorem scales : (dats m 0 c).arrAt 5 cfg0.N = scalesOf (m ((c : Thread nD τ).loc main_arg0)) := by
  refine (dats m 0 c).arrAt_eq_of_covers 5 _ (by decide +kernel) fun t hf y => ?_
  blk_simp
  obtain ⟨R, l, rfl⟩ : ∃ (R : Fin 512) (l : Fin 44), y = ix2 R l := ⟨y 0, y 1, (ix2_eta y).symm⟩
  have he : ((win0_5.blk t).view.emb (ix2 R l)) = ix2 (arrayRow t R) l := by
    unfold arrayRow; blk_ext [idx t]
  rw [he, after0_5]
  refine (out_scales c (grid0.coords t) _ _ _ _ _ _ _ _ _ _ _ _ _ _ (iblk m c 0 t) (block_in_range m c hu t) (iblk m c 1 t) (iblk m c 2 t) (ix2 R l)).trans ?_
  show ((scale (rowOf (iblk m c 0 t) R) l : ℝ) : EReal) = _
  rw [block_u]
  rfl

include hu in
/-- What point `t` leaves in its block of products. -/
theorem point_product (t : Fin cfg0.N) (R : Fin 512) (d : Fin 2048) :
    (outsAt0 m c t).1 (ix2 R d) = product (rowAt (m ((c : Thread nD τ).loc main_arg0)) (arrayRow t R))
      (fun k => m ((c : Thread nD τ).loc main_arg1) (ix2 k d)) (m ((c : Thread nD τ).loc main_arg2) (ix1 d)) := by
  have h : (outsAt0 m c t).1 = out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) := by
    simp only [outsAt0]
  rw [h]
  exact (out_product c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (block_in_range m c hu t) (iblk m c 1 t) (iblk m c 2 t) R d).trans
    (product_congr (block_u m c t R) (fun k => block_w m c t k d) (block_ws m c t d))

include hu in
/-- The array of products after the run. -/
theorem products : (dats m 0 c).arrAt 3 cfg0.N
    = productsOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨R, d, rfl⟩ : ∃ (R : Fin 512) (d : Fin 2048), y = ix2 R d := ⟨y 0, y 1, (ix2_eta y).symm⟩
  have he : ((win0_3.blk t).view.emb (ix2 R d)) = ix2 (arrayRow t R) d := by
    unfold arrayRow; blk_ext [idx t]
  rw [he, after0_3]
  exact point_product m c hu t R d

end Cert.KernelIdeal.Array

end
-- ==== Proof.RefRow.lean ====
/- What the reference's payloads hold on one row of the activations: the squares kept, the level and power of two of
   each block, the codes, the scales and the products are those of `Spec`. -/
module

public import proofs.«01_k».proof.Proof.Rows
public import proofs.«01_k».proof.Proof.Elements
public import proofs.«01_k».proof.Proof.Gen.ReferenceIdeal.Frame

@[expose] public section

set_option maxRecDepth 16384

noncomputable section

namespace Cert.ReferenceIdeal.Ref

open Cert.ReferenceIdeal Cert.ReferenceIdeal.Gen Cert.Spec
open Idealize.ShloMosaic Idealize.ShloMosaic.TcCoe

/-! ## Pruning on one row -/

theorem test_bits (P Q S : Prop) [Decidable P] [Decidable Q] [Decidable S] :
    (FloatOps.sitofp FTy.f32 (BitVec.setWidth 32 (IntOp.ori (BitVec.ofBool (decide P)) (IntOp.andi (BitVec.ofBool (decide Q)) (BitVec.ofBool (decide S))))) : Ideal .f32)
      = (((if P ∨ (Q ∧ S) then 1 else 0 : ℕ) : ℝ) : EReal) := by
  have e : ∀ b : Bool, (((BitVec.setWidth 32 (BitVec.ofBool b)).toInt : ℝ) : EReal) = (((if b = true then 1 else 0 : ℕ) : ℝ) : EReal) := by
    intro b; cases b <;> simp
  rw [show IntOp.ori (BitVec.ofBool (decide P)) (IntOp.andi (BitVec.ofBool (decide Q)) (BitVec.ofBool (decide S))) = BitVec.ofBool (decide (P ∨ (Q ∧ S))) by
    by_cases P <;> by_cases Q <;> by_cases S <;> simp [*, IntOp.ori, IntOp.andi]]
  refine (e (decide (P ∨ (Q ∧ S)))).trans ?_
  simp only [decide_eq_true_eq]

theorem earlier (q p : Fin 4) : IntOp.cmpi .slt (BitVec.ofNat 32 q.val) (BitVec.ofNat 32 p.val) = BitVec.ofBool (decide (q.val < p.val)) :=
  (by decide +kernel : ∀ q p : Fin 4, IntOp.cmpi .slt (BitVec.ofNat 32 q.val) (BitVec.ofNat 32 p.val) = BitVec.ofBool (decide (q.val < p.val))) q p

variable (u : Fin 1408 → EReal) (hu : ∀ c, u c < Ideal.ofBits .f32 0x5F800000#32)

include hu in
/-- The square of a real activation. -/
theorem square (c : Fin 1408) : max (u c) 0 * max (u c) 0 = ((act (u c) * act (u c) : ℝ) : EReal) := by
  rw [← coe_act _ (hu c), ← EReal.coe_mul]

theorem square_lt (a b : ℝ) (ha : 0 ≤ a) (hb : 0 ≤ b) : ((a * a : ℝ) : EReal) < ((b * b : ℝ) : EReal) ↔ a < b := by
  rw [EReal.coe_lt_coe_iff]; exact (mul_self_lt_mul_self_iff ha hb).symm

theorem square_eq (a b : ℝ) (ha : 0 ≤ a) (hb : 0 ≤ b) : ((a * a : ℝ) : EReal) = ((b * b : ℝ) : EReal) ↔ a = b := by
  rw [EReal.coe_eq_coe_iff]; exact mul_self_inj ha hb

/-- The sum of the four tests is below two exactly when fewer than two of the group rank before. -/
theorem count_lt (c : Fin 1408) (f : Fin 4 → EReal) (hf : ∀ q, f q = (((if beats u c q then 1 else 0 : ℕ) : ℝ) : EReal)) :
    (∑ q, f q) < Ideal.ofBits .f32 0x40000000#32 ↔ rank u c < 2 := by
  have h : (∑ q, f q) = ((rank u c : ℝ) : EReal) := by
    rw [rank, Finset.card_filter, Fin.sum_univ_four, Fin.sum_univ_four, hf, hf, hf, hf]
    push_cast
    simp only [EReal.coe_add]
  rw [h, ofBits_two_f32, EReal.coe_lt_coe_iff]
  exact_mod_cast Iff.rfl

theorem pruned_nonneg (c : Fin 1408) : 0 ≤ pruned u c := by
  unfold pruned; split
  · exact le_refl _
  · exact act_nonneg _

theorem pruned_le (c : Fin 1408) : pruned u c ≤ act (u c) := by
  unfold pruned; split
  · exact act_nonneg _
  · exact le_refl _

/-- The block's largest activation is kept by the pruning: its first occurrence is beaten by none of its group. -/
theorem peak_kept (b : Fin 44) : ∃ i : Fin 32, pruned u (col b i) = peak u b := by
  classical
  have hne : (Finset.univ.filter fun i : Fin 32 => act (u (col b i)) = peak u b).Nonempty := by
    obtain ⟨i, -, hi⟩ := Finset.exists_mem_eq_sup' Finset.univ_nonempty fun i : Fin 32 => act (u (col b i))
    exact ⟨i, Finset.mem_filter.2 ⟨Finset.mem_univ _, hi.symm⟩⟩
  obtain ⟨i, hi, hmin⟩ := Finset.exists_min_image _ (fun i : Fin 32 => i.val) hne
  have hi := (Finset.mem_filter.1 hi).2
  refine ⟨i, ?_⟩
  have hr : rank u (col b i) = 0 := by
    rw [rank, Finset.card_eq_zero, Finset.filter_eq_empty_iff]
    intro q _ hq
    have hm : member (col b i) q = col b ⟨4 * (i.val / 4) + q.val, by omega⟩ := Fin.ext (by simp only [member, col]; omega)
    rcases hq with hq | ⟨hq, hlt⟩
    · rw [hm, hi] at hq
      exact absurd (Finset.le_sup' (fun i : Fin 32 => act (u (col b i))) (Finset.mem_univ (⟨4 * (i.val / 4) + q.val, by omega⟩ : Fin 32))) (not_le.2 hq)
    · rw [hm, hi] at hq
      have := hmin ⟨4 * (i.val / 4) + q.val, by omega⟩ (Finset.mem_filter.2 ⟨Finset.mem_univ _, hq⟩)
      simp only [col] at this hlt
      omega
  rw [pruned, hr, if_neg (by omega), hi]

/-- The largest of the squares kept in a block is the square of its largest activation. -/
theorem fold_peak (b : Fin 44) (z : EReal) (hz : z = ⊥) :
    Finset.fold max z (fun i : Fin 32 => ((|pruned u (col b i) * pruned u (col b i)| : ℝ) : EReal)) Finset.univ
      = ((peak u b * peak u b : ℝ) : EReal) := by
  apply le_antisymm
  · rw [Finset.fold_max_le]
    refine ⟨hz ▸ bot_le, fun i _ => EReal.coe_le_coe_iff.2 ?_⟩
    rw [abs_mul_self]
    have h : pruned u (col b i) ≤ peak u b :=
      le_trans (pruned_le u _) (Finset.le_sup' (fun i : Fin 32 => act (u (col b i))) (Finset.mem_univ i))
    exact mul_le_mul h h (pruned_nonneg u _) (peak_nonneg u b)
  · obtain ⟨i, hi⟩ := peak_kept u b
    rw [Finset.le_fold_max]
    refine Or.inr ⟨i, Finset.mem_univ _, ?_⟩
    rw [hi, abs_mul_self]

/-! ## The power of two -/

/-- The reference's exponent of a level. -/
theorem exponent (t : ℝ) :
    (if ((if t < (2 : ℝ) ^ (-126 : ℤ) then 0 else t : ℝ) : EReal) = 0 then (0 : EReal)
      else Ideal.liftRound Int.floor (Ideal.div (Ideal.log ((if t < (2 : ℝ) ^ (-126 : ℤ) then 0 else t : ℝ) : EReal)) (Ideal.log ((2 : ℝ) : EReal))) + 1)
      = (((power t : ℤ) : ℝ) : EReal) := by
  unfold power
  by_cases h : t < (2 : ℝ) ^ (-126 : ℤ)
  · rw [if_pos h, if_pos h, if_pos EReal.coe_zero]; simp
  · have ht : 0 < t := lt_of_lt_of_le (by positivity) (not_lt.1 h)
    have hl : Real.log 2 ≠ 0 := (Real.log_pos (by norm_num)).ne'
    rw [if_neg h, if_neg h, if_neg (by rw [EReal.coe_eq_zero]; exact ht.ne')]
    rw [Ideal.log_coe, Ideal.log_coe, if_neg (not_le.2 ht), if_neg (by norm_num), Ideal.div_coe hl, ← EReal.coe_mul, Ideal.liftRound_coe]
    rw [mul_one_div]
    push_cast
    rfl

theorem exp2_int (n : ℤ) : Ideal.exp2 (((n : ℤ) : ℝ) : EReal) = (((2 : ℝ) ^ n : ℝ) : EReal) := by
  rw [Ideal.exp2_coe]; exact congrArg _ (Real.rpow_intCast 2 n)

/-! ## The payloads at an index -/

theorem test_of (x : Vec Ideal S24576x1408 .bf16) :
    k0_pay7 x = cmpf .oeq (k0_pay6 x) (broadcast S24576x44 (Scalar.ofBits .f32 0x00000000#32)) := rfl

theorem test_read (v : FVec Ideal S24576x44 .f32) (R : Fin 24576) (b : Fin 44) :
    cmpf .oeq v (broadcast S24576x44 (Scalar.ofBits .f32 0x00000000#32)) (ix2 R b) = BitVec.ofBool (decide (v (ix2 R b) = 0)) := by
  pointwise

theorem log_of (x : Vec Ideal S24576x1408 .bf16) :
    k0_pay8 x = addf (floor (divf (log (k0_pay6 x)) (log (broadcast S24576x44 (Scalar.ofBits .f32 0x40000000#32)))))
      (broadcast S24576x44 (Scalar.ofBits .f32 0x3F800000#32)) := rfl

theorem log_read (v : FVec Ideal S24576x44 .f32) (R : Fin 24576) (b : Fin 44) :
    addf (floor (divf (log v) (log (broadcast S24576x44 (Scalar.ofBits .f32 0x40000000#32)))))
        (broadcast S24576x44 (Scalar.ofBits .f32 0x3F800000#32)) (ix2 R b)
      = Ideal.liftRound Int.floor (Ideal.div (Ideal.log (v (ix2 R b))) (Ideal.log (Ideal.ofBits .f32 0x40000000#32))) + 1 := by
  pointwise

/-- The largest of each block of 32. -/
def peaks (v : FVec Ideal S24576x44x32 .f32) : FVec Ideal S24576x44 .f32 :=
  multiReduction .maximumf [2] S24576x44 (absf v) 0xFF800000#32 reduces_S24576x44x32_S24576x44 (.inl rfl) rfl

theorem peaks_read (v : FVec Ideal S24576x44x32 .f32) (R : Fin 24576) (b : Fin 44) :
    peaks v (ix2 R b) = Finset.fold max (Ideal.ofBits .f32 0xFF800000#32) (fun i => FloatOps.absf (v (ix3 R b i))) Finset.univ := by
  pointwise [peaks]

/-- The level of a block from its largest. -/
def levels (v : FVec Ideal S24576x44 .f32) : FVec Ideal S24576x44 .f32 :=
  select (cmpf .olt (mulf v (broadcast S24576x44 (Scalar.ofBits .f32 0x3B124925#32))) (broadcast S24576x44 (Scalar.ofBits .f32 0x00800000#32)))
    (broadcast S24576x44 (Scalar.ofBits .f32 0x00000000#32)) (mulf v (broadcast S24576x44 (Scalar.ofBits .f32 0x3B124925#32)))

theorem levels_read (v : FVec Ideal S24576x44 .f32) (R : Fin 24576) (b : Fin 44) :
    levels v (ix2 R b) = if v (ix2 R b) * Ideal.ofBits .f32 0x3B124925#32 < Ideal.ofBits .f32 0x00800000#32 then 0
      else v (ix2 R b) * Ideal.ofBits .f32 0x3B124925#32 := by
  pointwise [levels]

theorem level_of (x : Vec Ideal S24576x1408 .bf16) : k0_pay6 x = levels (peaks (k0_pay5 x)) := rfl

theorem scales_read (e : IVec S24576x44 1) (f : FVec Ideal S24576x44 .f32) (z : Ideal .f32) (R : Fin 24576) (b : Fin 44) :
    k0_pay2 e f z (ix2 R b) = FloatOps.exp2 (Scalar.select (e (ix2 R b)) z (f (ix2 R b))) := by
  pointwise [k0_pay2, k0_pay1]

theorem codes_read (v : FVec Ideal S24576x44x32 .f32) (e : IVec S24576x44 1) (f : FVec Ideal S24576x44 .f32) (z : Ideal .f32)
    (R : Fin 24576) (l : Fin 1408) :
    k0_pay3 v e f z (ix2 R l) = min (Ideal.ofBits .f32 0x43E00000#32) (max (Ideal.ofBits .f32 0xC3E00000#32)
      (v (ix3 R (blockOf l) (⟨l.val % 32, by omega⟩ : Fin 32))
        * FloatOps.exp2 (0 - Scalar.select (e (ix2 R (blockOf l))) z (f (ix2 R (blockOf l))) : Ideal .f32))) := by
  pointwise [k0_pay3, k0_pay1]
  rfl

theorem products_read (v : FVec Ideal S24576x44x32 .f32) (e : IVec S24576x44 1) (f : FVec Ideal S24576x44 .f32) (z : Ideal .f32)
    (w : Vec Ideal S1408x2048 .fp8e4m3) (ws : Vec Ideal S1x2048 .f32) (R : Fin 24576) (d : Fin 2048) :
    k0_pay4 v e f z w ws (ix2 R d)
      = (∑ l : Fin 1408, k0_pay3 v e f z (ix2 R l) * k0_pay2 e f z (ix2 R (blockOf l)) * w (ix2 l d)) * ws (ix2 (0 : Fin 1) d) := by
  pointwise [k0_pay4]
  rfl

/-! ## The payloads on a row -/

/-- Row `R` of the flattened activations. -/
def rowOf (x : Vec Ideal S24576x1408 .bf16) (R : Fin 24576) : Fin 1408 → EReal := fun c => x (ix2 R c)

variable (x : Vec Ideal S24576x1408 .bf16) (R : Fin 24576) (hx : ∀ c, rowOf x R c < Ideal.ofBits .f32 0x5F800000#32)

include hx in
/-- The squares left by the pruning. -/
theorem kept (b : Fin 44) (i : Fin 32) :
    k0_pay5 x (ix3 R b i) = ((pruned (rowOf x R) (col b i) * pruned (rowOf x R) (col b i) : ℝ) : EReal) := by
  pointwise [k0_pay5]
  have e1 : ∀ h, (⟨(b.val * 8 + i.val / 4) * 4 + i.val % 4, h⟩ : Fin 1408) = col b i := fun h => Fin.ext (by simp only [col]; omega)
  have e2 : ∀ (q : Fin 4) h, (⟨(b.val * 8 + i.val / 4) * 4 + q.val, h⟩ : Fin 1408) = member (col b i) q := fun q h => Fin.ext (by simp only [col, member]; omega)
  have e3 : ∀ c, x (ix2 R c) = rowOf x R c := fun c => rfl
  simp only [e1, e2, e3]
  have hp : i.val % 4 = (col b i).val % 4 := by simp only [col]; omega
  refine (if_congr (count_lt (rowOf x R) (col b i) _ fun q => ?_) rfl rfl).trans ?_
  · rw [square _ hx, square _ hx]
    refine ((congrArg _ (congrArg _ (congrArg _ (congrArg _ (earlier q ⟨i.val % 4, by omega⟩))))).trans (test_bits _ _ _)).trans ?_
    simp only [square_lt _ _ (act_nonneg _) (act_nonneg _), square_eq _ _ (act_nonneg _) (act_nonneg _), hp]
    exact congrArg (fun n : ℕ => ((n : ℝ) : EReal)) (if_congr Iff.rfl rfl rfl)
  rw [square _ hx, pruned]
  by_cases h : rank (rowOf x R) (col b i) < 2
  · rw [if_pos h, if_neg (by omega)]
  · rw [if_neg h, if_pos (by omega)]; simp

include hx in
/-- The level of a block: its largest square by the float nearest to 1/448, zero where that is below every normal number. -/
theorem level (b : Fin 44) :
    k0_pay6 x (ix2 R b) = ((if peak (rowOf x R) b * peak (rowOf x R) b * kappa < (2 : ℝ) ^ (-126 : ℤ) then 0 else peak (rowOf x R) b * peak (rowOf x R) b * kappa : ℝ) : EReal) := by
  have hf : (fun i => FloatOps.absf (k0_pay5 x (ix3 R b i))) = fun i : Fin 32 => ((|pruned (rowOf x R) (col b i) * pruned (rowOf x R) (col b i)| : ℝ) : EReal) := by
    funext i
    rw [kept x R hx b i]
    exact (EReal.coe_strictMono.monotone.map_max).symm
  rw [level_of, levels_read, peaks_read, hf]
  rw [fold_peak _ _ _ (by simp [Ideal.ofBits, Ideal.ieee]), kappa_bits, ofBits_tiny_f32, ← EReal.coe_mul]
  by_cases h : peak (rowOf x R) b * peak (rowOf x R) b * kappa < (2 : ℝ) ^ (-126 : ℤ)
  · rw [if_pos h, if_pos (EReal.coe_lt_coe_iff.2 h)]; simp
  · rw [if_neg h, if_neg (fun h' => h (EReal.coe_lt_coe_iff.1 h'))]

include hx in
/-- The power of two of a block. -/
theorem exponents (b : Fin 44) :
    Scalar.select (k0_pay7 x (ix2 R b)) (Scalar.ofBits .f32 0x00000000#32 : Ideal .f32) (k0_pay8 x (ix2 R b)) = (((blockPower (rowOf x R) b : ℤ) : ℝ) : EReal) := by
  rw [test_of, test_read, log_of, log_read, level x R hx b, ofBits_two_f32]
  refine (Cert.KernelIdeal.Form.select_ofBool _ _ _).trans ((if_congr Iff.rfl ?_ rfl).trans (exponent _))
  exact Ideal.ofBits_zero_f32

/-- The constant zero that the payloads of scales, codes and products take. -/
abbrev zeroF : Ideal .f32 := Scalar.ofBits .f32 0x00000000#32

include hx in
/-- The scales of a row. -/
theorem scales_row (b : Fin 44) : k0_pay2 (k0_pay7 x) (k0_pay8 x) zeroF (ix2 R b) = ((scale (rowOf x R) b : ℝ) : EReal) := by
  have h := exponents x R hx b
  revert h
  generalize k0_pay7 x = e
  generalize k0_pay8 x = f
  intro h
  refine (scales_read e f zeroF R b).trans ?_
  rw [h]
  exact exp2_int _

include hx in
/-- The codes of a row. -/
theorem codes_row (l : Fin 1408) :
    k0_pay3 (k0_pay5 x) (k0_pay7 x) (k0_pay8 x) zeroF (ix2 R l) = ((code (rowOf x R) l : ℝ) : EReal) := by
  have h := exponents x R hx (blockOf l)
  have hk := kept x R hx (blockOf l) ⟨l.val % 32, by omega⟩
  rw [show col (blockOf l) ⟨l.val % 32, by omega⟩ = l from Fin.ext (by simp only [col, blockOf]; omega)] at hk
  refine (codes_read (k0_pay5 x) (k0_pay7 x) (k0_pay8 x) zeroF R l).trans ?_
  refine (congrArg₂ (fun a e : EReal => min (Ideal.ofBits .f32 0x43E00000#32) (max (Ideal.ofBits .f32 0xC3E00000#32) (a * Ideal.exp2 (0 - e)))) hk h).trans ?_
  show min (Ideal.ofBits .f32 0x43E00000#32) (max (Ideal.ofBits .f32 0xC3E00000#32) (_ * Ideal.exp2 (0 - _))) = _
  rw [zero_sub, ← EReal.coe_neg, ← Int.cast_neg, exp2_int, ofBits_448_f32, ofBits_n448_f32, ← EReal.coe_mul,
    ← EReal.coe_strictMono.monotone.map_max, ← EReal.coe_strictMono.monotone.map_min]
  rfl

theorem product_of (u w : Fin 1408 → EReal) (s : EReal) (f g : Fin 1408 → EReal) (hf : ∀ l, f l = ((code u l : ℝ) : EReal))
    (hg : ∀ l, g l = ((scale u (blockOf l) : ℝ) : EReal)) : (∑ l, f l * g l * w l) * s = product u w s := by
  have h : ∀ l, f l * g l * w l = ((dequant u l : ℝ) : EReal) * w l := fun l => by rw [hf, hg, ← EReal.coe_mul]; rfl
  rw [product, Finset.sum_congr rfl fun l _ => h l]

include hx in
/-- The products of a row. -/
theorem products_row (w : Vec Ideal S1408x2048 .fp8e4m3) (ws : Vec Ideal S1x2048 .f32) (d : Fin 2048) :
    k0_pay4 (k0_pay5 x) (k0_pay7 x) (k0_pay8 x) zeroF w ws (ix2 R d)
      = product (rowOf x R) (fun c => w (ix2 c d)) (ws (ix2 (0 : Fin 1) d)) := by
  refine (products_read (k0_pay5 x) (k0_pay7 x) (k0_pay8 x) zeroF w ws R d).trans ?_
  exact product_of (rowOf x R) (fun c => w (ix2 c d)) _ _ _ (codes_row x R hx) fun l => scales_row x R hx (blockOf l)

end Cert.ReferenceIdeal.Ref

end
-- ==== Proof.RefArray.lean ====
/- What the reference's three result arrays hold after the run: its one grid point works on whole arrays, so that each
   result is, row by row, the codes, scales and products of `Spec`. -/
module

public import proofs.«01_k».proof.Proof.RefRow
public import proofs.«01_k».proof.Proof.Gen.ReferenceIdeal.Value
public import Idealize.ShloMosaic.Lib.Pipeline.ValueKit

@[expose] public section

set_option maxRecDepth 16384

noncomputable section

namespace Cert.ReferenceIdeal.Array

open Cert.ReferenceIdeal Cert.ReferenceIdeal.Gen Cert.ReferenceIdeal.Ref Cert.Spec
open Idealize.ShloMosaic Idealize.ShloMosaic.TcCoe

/-! ## The body's results as payloads -/

section
variable (x : Vec Ideal S24576x1408 .bf16) (w : Vec Ideal S1408x2048 .fp8e4m3) (ws : Vec Ideal S1x2048 .f32)

theorem out_codes : out0_4 x w ws = k0_pay3 (k0_pay5 x) (k0_pay7 x) (k0_pay8 x) zeroF := by
  unfold out0_4 k0_pay9 k0_pay10 k0_pay11
  frame_out

theorem out_scales : out0_5 x w ws = k0_pay2 (k0_pay7 x) (k0_pay8 x) zeroF := by
  unfold out0_5 k0_pay10 k0_pay11
  frame_out

theorem out_products : out0_3 x w ws = k0_pay4 (k0_pay5 x) (k0_pay7 x) (k0_pay8 x) zeroF w ws := by
  unfold out0_3 k0_pay9 k0_pay10 k0_pay11
  frame_out

end

/-! ## The blocks -/

variable (m : (ℓ : Loc nD τ sig) → Buf (Elt Ideal) ℓ) (c : Dev nD)

/-- The one grid point works on whole arrays. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0] ∧
    win0_3.index t = ![0, 0] ∧ win0_4.index t = ![0, 0] ∧ win0_5.index t = ![0, 0])

theorem block_u (t : Fin cfg0.N) (R : Fin 24576) :
    rowOf (iblk m c 0 t) R = rowAt (m ((c : Thread nD τ).loc main_arg0)) R := by
  funext l
  show iblk m c 0 t (ix2 R l) = _
  unfold rowAt
  blk_simp [iblk, idx t]
  entry_read
  pointwise
  blk_ext [idx t]

theorem block_w (t : Fin cfg0.N) (l : Fin 1408) (d : Fin 2048) :
    iblk m c 1 t (ix2 l d) = m ((c : Thread nD τ).loc main_arg1) (ix2 l d) := by
  blk_ext [iblk, V, idx t]

theorem block_ws (t : Fin cfg0.N) (d : Fin 2048) :
    iblk m c 2 t (ix2 (0 : Fin 1) d) = m ((c : Thread nD τ).loc main_arg2) (ix1 d) := by
  blk_simp [iblk, idx t]
  entry_read
  pointwise
  blk_ext [idx t]

/-! ## The arrays -/

variable (hu : AllInRange (m ((c : Thread nD τ).loc main_arg0)))

include hu in
theorem block_in_range (t : Fin cfg0.N) (R : Fin 24576) (l : Fin 1408) : rowOf (iblk m c 0 t) R l < Ideal.ofBits .f32 0x5F800000#32 := by
  rw [block_u]
  exact hu _

include hu in
theorem point_codes (t : Fin cfg0.N) (R : Fin 24576) (l : Fin 1408) :
    out0_4 (iblk m c 0 t) (iblk m c 1 t) (iblk m c 2 t) (ix2 R l) = codesOf (m ((c : Thread nD τ).loc main_arg0)) (ix2 R l) := by
  rw [out_codes]
  refine (codes_row (iblk m c 0 t) R (block_in_range m c hu t R) l).trans ?_
  rw [block_u]
  rfl

include hu in
theorem point_scales (t : Fin cfg0.N) (R : Fin 24576) (b : Fin 44) :
    out0_5 (iblk m c 0 t) (iblk m c 1 t) (iblk m c 2 t) (ix2 R b) = scalesOf (m ((c : Thread nD τ).loc main_arg0)) (ix2 R b) := by
  rw [out_scales]
  refine (scales_row (iblk m c 0 t) R (block_in_range m c hu t R) b).trans ?_
  rw [block_u]
  rfl

include hu in
theorem point_products (t : Fin cfg0.N) (R : Fin 24576) (d : Fin 2048) :
    out0_3 (iblk m c 0 t) (iblk m c 1 t) (iblk m c 2 t) (ix2 R d)
      = productsOf (m ((c : Thread nD τ).loc main_arg0)) (m ((c : Thread nD τ).loc main_arg1)) (m ((c : Thread nD τ).loc main_arg2)) (ix2 R d) := by
  rw [out_products]
  exact (products_row (iblk m c 0 t) R (block_in_range m c hu t R) (iblk m c 1 t) (iblk m c 2 t) d).trans
    (product_congr (block_u m c t R) (fun k => block_w m c t k d) (block_ws m c t d))

include hu in
/-- The array of codes after the run. -/
theorem codes : (dats m 0 c).arrAt 4 cfg0.N = codesOf (m ((c : Thread nD τ).loc main_arg0)) := by
  refine (dats m 0 c).arrAt_eq_of_covers 4 _ (by decide +kernel) fun t hf y => ?_
  blk_simp
  obtain ⟨R, l, rfl⟩ : ∃ (R : Fin 24576) (l : Fin 1408), y = ix2 R l := ⟨y 0, y 1, (ix2_eta y).symm⟩
  have he : ((win0_4.blk t).view.emb (ix2 R l)) = ix2 R l := by blk_ext [idx t]
  rw [he, after0_4]
  exact point_codes m c hu t R l

include hu in
/-- The array of scales after the run. -/
theorem scales : (dats m 0 c).arrAt 5 cfg0.N = scalesOf (m ((c : Thread nD τ).loc main_arg0)) := by
  refine (dats m 0 c).arrAt_eq_of_covers 5 _ (by decide +kernel) fun t hf y => ?_
  blk_simp
  obtain ⟨R, l, rfl⟩ : ∃ (R : Fin 24576) (l : Fin 44), y = ix2 R l := ⟨y 0, y 1, (ix2_eta y).symm⟩
  have he : ((win0_5.blk t).view.emb (ix2 R l)) = ix2 R l := by blk_ext [idx t]
  rw [he, after0_5]
  exact point_scales m c hu t R l

include hu in
/-- The array of products after the run. -/
theorem products : (dats m 0 c).arrAt 3 cfg0.N
    = productsOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨R, d, rfl⟩ : ∃ (R : Fin 24576) (d : Fin 2048), y = ix2 R d := ⟨y 0, y 1, (ix2_eta y).symm⟩
  have he : ((win0_3.blk t).view.emb (ix2 R d)) = ix2 R d := by blk_ext [idx t]
  rw [he, after0_3]
  exact point_products m c hu t R d

end Cert.ReferenceIdeal.Array

end
-- ==== Proof.Algebra.lean ====
/- The equation of the two programs: where every activation is below 2^64, the kernel's three arrays and the reference's
   hold the same products, codes and scales. -/
module

public import proofs.«01_k».proof.Defs
public import proofs.«01_k».proof.Proof.Array
public import proofs.«01_k».proof.Proof.RefArray
public import proofs.«01_k».proof.Proof.Gen.Pre_squares_in_range
public import Idealize.ShloMosaic.Lib.ReduceAll
public import Idealize.ShloMosaic.Lib.Claim

@[expose] public section

set_option maxRecDepth 16384

noncomputable section

namespace Cert.Algebra

open Idealize.ShloMosaic Idealize.ShloMosaic.TcCoe Idealize.SL.Sem Cert.Spec

/-- The precondition, read at an index. -/
theorem in_range (a0 : FVec Ideal Pre_squares_in_range.S24x1024x1408 .bf16) (a1 : FVec Ideal Pre_squares_in_range.S1408x2048 .fp8e4m3)
    (a2 : FVec Ideal Pre_squares_in_range.S2048 .f32) (h : Pre_squares_in_range.fn (F := Ideal) a0 a1 a2 = fun _ => 1#1) : AllInRange a0 := by
  intro i
  have h0 := congrFun h default
  dsimp only [Pre_squares_in_range.fn] at h0
  have h1 := Host.reduce_andi_all _ _ _ _ _ h0 i
  have h2 : BitVec.ofBool (decide (a0 i < Ideal.ofBits .f32 0x5F800000#32)) = 1#1 := h1
  by_contra hc
  rw [decide_eq_false hc] at h2
  exact absurd h2 (by decide)

/-- The kernel and the reference leave the same three arrays. -/
theorem algebraic : algebraic_KernelIdeal_ReferenceIdeal_pre_squares_in_range := by
  intro m g m' g' hpre hagree
  have hk : ∀ c : Dev KernelIdeal.nD, AllInRange (m ((c.tc : Thread KernelIdeal.nD KernelIdeal.τ).loc KernelIdeal.main_arg0)) :=
    fun c => in_range _ _ _ (hpre c)
  have hr : ∀ c : Dev ReferenceIdeal.nD, AllInRange (m' ((c.tc : Thread ReferenceIdeal.nD ReferenceIdeal.τ).loc ReferenceIdeal.main_arg0)) := by
    intro c
    rw [(hagree c).1]
    exact hk c
  refine ⟨fun c => productsOf (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2)),
    fun c => codesOf (m ((c.tc : Thread KernelIdeal.nD KernelIdeal.τ).loc KernelIdeal.main_arg0)),
    fun c => scalesOf (m ((c.tc : Thread KernelIdeal.nD KernelIdeal.τ).loc KernelIdeal.main_arg0)), ?_, ?_⟩
  · refine (θ_run _ _ _).mono (fun r h c => ?_) (KernelIdeal.Value.run_blocks m g)
    obtain ⟨h3, h4, h5, k0, k1, k2⟩ := h c
    exact ⟨h3.trans (KernelIdeal.Array.products m c (hk c)), h4.trans (KernelIdeal.Array.codes m c (hk c)),
      h5.trans (KernelIdeal.Array.scales m c (hk c)), k0, k1, k2⟩
  · refine (θ_run _ _ _).mono (fun r h c => ?_) (ReferenceIdeal.Value.run_blocks m' g')
    obtain ⟨h3, h4, h5, k0, k1, k2⟩ := h c
    refine ⟨(h3.trans (ReferenceIdeal.Array.products m' c (hr c))).trans ?_, (h4.trans (ReferenceIdeal.Array.codes m' c (hr c))).trans ?_,
      (h5.trans (ReferenceIdeal.Array.scales m' c (hr c))).trans ?_, k0, k1, k2⟩
    · rw [(hagree c).1, (hagree c).2.1, (hagree c).2.2]
    · rw [(hagree c).1]
    · rw [(hagree c).1]

end Cert.Algebra

end
-- ==== Proof.lean ====
module

public import proofs.«01_k».proof.Defs
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_squares_in_range
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_squares_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Algebra.algebraic⟩

end Cert.Proof

end
